-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![1024, 512]⟩ ⟨2, ![8192, 512]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![1024, 1]⟩ ⟨2, ![8192, 1]⟩ 0 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 32]⟩ ⟨2, ![8192, 32]⟩ 0 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨3, ![4, 512, 1024]⟩ ⟨3, ![32, 512, 1024]⟩ 0 8 c (m' (((0 : Dev Cert.ReferenceIdeal.nD).tc : Thread Cert.ReferenceIdeal.nD Cert.ReferenceIdeal.τ).loc Cert.ReferenceIdeal.main_arg3))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = Layout.block ⟨2, ![1024, 1024]⟩ ⟨2, ![8192, 1024]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x512 : Shape := ⟨2, ![1024, 512]⟩
abbrev S1024x1 : Shape := ⟨2, ![1024, 1]⟩
abbrev S1024x32 : Shape := ⟨2, ![1024, 32]⟩
abbrev S4x512x1024 : Shape := ⟨3, ![4, 512, 1024]⟩
abbrev S_ : Shape := ⟨0, ![]⟩
abbrev S1024 : Shape := ⟨1, ![1024]⟩
abbrev S32 : Shape := ⟨1, ![32]⟩
abbrev S1x32 : Shape := ⟨2, ![1, 32]⟩
abbrev S8 : Shape := ⟨1, ![8]⟩
abbrev S8x1 : Shape := ⟨2, ![8, 1]⟩
abbrev S8x4 : Shape := ⟨2, ![8, 4]⟩
abbrev S32x1 : Shape := ⟨2, ![32, 1]⟩
abbrev S1 : Shape := ⟨1, ![1]⟩
abbrev S1x1 : Shape := ⟨2, ![1, 1]⟩
abbrev S2x512x1024 : Shape := ⟨3, ![2, 512, 1024]⟩
abbrev S1024x1024 : Shape := ⟨2, ![1024, 1024]⟩
abbrev S2x1024x1024 : Shape := ⟨3, ![2, 1024, 1024]⟩
abbrev S2 : Shape := ⟨1, ![2]⟩
abbrev S1x1024x1024 : Shape := ⟨3, ![1, 1024, 1024]⟩

abbrev nBuf : Space → Nat
  | .hbm => 131
  | .vmem => 7
  | .smem => 0
  | _ => 0

abbrev hbmTy0_0 (i : Nat) : BufTy := match i % 128 with
  | 0 => ⟨S1024x512, .bf16⟩
  | 1 => ⟨S1024x1, .i32⟩
  | 2 => ⟨S1024x32, .i32⟩
  | 3 => ⟨S4x512x1024, .bf16⟩
  | 4 => ⟨S_, .i32⟩
  | 5 => ⟨S_, .i32⟩
  | 6 => ⟨S_, .i32⟩
  | 7 => ⟨S_, .i32⟩
  | 8 => ⟨S_, .i32⟩
  | 9 => ⟨S_, .i32⟩
  | 10 => ⟨S1024, .i32⟩
  | 11 => ⟨S1024x1, .i32⟩
  | 12 => ⟨S32, .i32⟩
  | 13 => ⟨S1x32, .i32⟩
  | 14 => ⟨S1024x32, .i32⟩
  | 15 => ⟨S1024x32, .i32⟩
  | 16 => ⟨S1024x32, .i1⟩
  | 17 => ⟨S1024x32, .i32⟩
  | 18 => ⟨S_, .i32⟩
  | 19 => ⟨S1024x32, .i32⟩
  | 20 => ⟨S1024x32, .i1⟩
  | 21 => ⟨S_, .i32⟩
  | 22 => ⟨S1024x32, .i32⟩
  | 23 => ⟨S1024x32, .i1⟩
  | 24 => ⟨S1024x32, .i1⟩
  | 25 => ⟨S8, .i32⟩
  | 26 => ⟨S8, .i32⟩
  | 27 => ⟨S8, .i32⟩
  | 28 => ⟨S_, .i32⟩
  | 29 => ⟨S_, .i32⟩
  | 30 => ⟨S_, .i32⟩
  | 31 => ⟨S_, .i1⟩
  | 32 => ⟨S_, .i32⟩
  | 33 => ⟨S_, .i32⟩
  | 34 => ⟨S8, .i32⟩
  | 35 => ⟨S8, .i32⟩
  | 36 => ⟨S_, .i32⟩
  | 37 => ⟨S8, .i32⟩
  | 38 => ⟨S8, .i1⟩
  | 39 => ⟨S_, .i32⟩
  | 40 => ⟨S8, .i32⟩
  | 41 => ⟨S8, .i1⟩
  | 42 => ⟨S_, .i32⟩
  | 43 => ⟨S_, .i1⟩
  | 44 => ⟨S8, .i1⟩
  | 45 => ⟨S8, .i1⟩
  | 46 => ⟨S8, .i1⟩
  | 47 => ⟨S8, .i32⟩
  | 48 => ⟨S8, .i32⟩
  | 49 => ⟨S8, .i32⟩
  | 50 => ⟨S8, .i32⟩
  | 51 => ⟨S8, .i32⟩
  | 52 => ⟨S8, .i32⟩
  | 53 => ⟨S_, .i32⟩
  | 54 => ⟨S_, .i32⟩
  | 55 => ⟨S_, .i32⟩
  | 56 => ⟨S_, .i1⟩
  | 57 => ⟨S_, .i32⟩
  | 58 => ⟨S_, .i32⟩
  | 59 => ⟨S8, .i32⟩
  | 60 => ⟨S8, .i32⟩
  | 61 => ⟨S_, .i32⟩
  | 62 => ⟨S8, .i32⟩
  | 63 => ⟨S8, .i1⟩
  | 64 => ⟨S_, .i32⟩
  | 65 => ⟨S8, .i32⟩
  | 66 => ⟨S8, .i1⟩
  | 67 => ⟨S_, .i32⟩
  | 68 => ⟨S_, .i1⟩
  | 69 => ⟨S8, .i1⟩
  | 70 => ⟨S8, .i1⟩
  | 71 => ⟨S8, .i1⟩
  | 72 => ⟨S8, .i32⟩
  | 73 => ⟨S8, .i32⟩
  | 74 => ⟨S8, .i32⟩
  | 75 => ⟨S_, .i32⟩
  | 76 => ⟨S8, .i32⟩
  | 77 => ⟨S8, .i32⟩
  | 78 => ⟨S_, .i32⟩
  | 79 => ⟨S8, .i32⟩
  | 80 => ⟨S8, .i32⟩
  | 81 => ⟨S_, .i32⟩
  | 82 => ⟨S8, .i32⟩
  | 83 => ⟨S8, .i32⟩
  | 84 => ⟨S_, .i32⟩
  | 85 => ⟨S8, .i32⟩
  | 86 => ⟨S8, .i32⟩
  | 87 => ⟨S_, .i32⟩
  | 88 => ⟨S8, .i32⟩
  | 89 => ⟨S8, .i32⟩
  | 90 => ⟨S_, .i32⟩
  | 91 => ⟨S8, .i32⟩
  | 92 => ⟨S8, .i32⟩
  | 93 => ⟨S_, .i32⟩
  | 94 => ⟨S8, .i32⟩
  | 95 => ⟨S8, .i32⟩
  | 96 => ⟨S8x1, .i32⟩
  | 97 => ⟨S8x1, .i32⟩
  | 98 => ⟨S8x1, .i32⟩
  | 99 => ⟨S8x1, .i32⟩
  | 100 => ⟨S8x4, .i32⟩
  | 101 => ⟨S32, .i32⟩
  | 102 => ⟨S1024x32, .bf16⟩
  | 103 => ⟨S_, .i32⟩
  | 104 => ⟨S32, .i32⟩
  | 105 => ⟨S32, .i1⟩
  | 106 => ⟨S_, .i32⟩
  | 107 => ⟨S32, .i32⟩
  | 108 => ⟨S32, .i32⟩
  | 109 => ⟨S32, .i32⟩
  | 110 => ⟨S32x1, .i32⟩
  | 111 => ⟨S1, .i32⟩
  | 112 => ⟨S_, .i32⟩
  | 113 => ⟨S32x1, .i32⟩
  | 114 => ⟨S32x1, .i1⟩
  | 115 => ⟨S1x1, .i32⟩
  | 116 => ⟨S32x1, .i32⟩
  | 117 => ⟨S32x1, .i1⟩
  | 118 => ⟨S32x1, .i1⟩
  | 119 => ⟨S_, .i1⟩
  | 120 => ⟨S32, .i1⟩
  | 121 => ⟨S1024x32, .bf16⟩
  | 122 => ⟨S1024x32, .i1⟩
  | 123 => ⟨S_, .bf16⟩
  | 124 => ⟨S1024x32, .bf16⟩
  | 125 => ⟨S1024x32, .bf16⟩
  | 126 => ⟨S2x512x1024, .bf16⟩
  | 127 => ⟨S1024x1024, .bf16⟩
  | _ => ⟨S1024x512, .bf16⟩

abbrev hbmTy0_1 (i : Nat) : BufTy := match i % 128 with
  | 0 => ⟨S2x512x1024, .bf16⟩
  | 1 => ⟨S1024x1024, .bf16⟩
  | 2 => ⟨S1024x1024, .f32⟩
  | _ => ⟨S1024x512, .bf16⟩

abbrev hbmTy (i : Nat) : BufTy := match i / 128 with
  | 0 => hbmTy0_0 i
  | 1 => hbmTy0_1 i
  | _ => ⟨S1024x512, .bf16⟩

abbrev bufTy : (tb : Table) → Fin (tcTables nBuf tb) → BufTy
  | .hbm, ⟨i, _⟩ => hbmTy i
  | .local _ .vmem, ⟨0, _⟩ => ⟨S1024x512, .bf16⟩
  | .local _ .vmem, ⟨1, _⟩ => ⟨S1024x32, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S2x1024x1024, .bf16⟩
  | .local _ .vmem, ⟨6, _⟩ => ⟨S2x1024x1024, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 3 → Bool
  | ⟨0, _⟩ => true
  | ⟨1, _⟩ => true
  | ⟨2, _⟩ => false
  | _ => false

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  (ofTc nBuf bufTy 3 13 bufScoped semScoped dmaSemScoped tileCredit tileCredit_eq_zero tileCredit_pos).withBarriers [(1, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_c_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c_1 : Ref sig .tc := ⟨.hbm, 18, rfl⟩
abbrev main_v13 : Ref sig .tc := ⟨.hbm, 19, rfl⟩
abbrev main_v14 : Ref sig .tc := ⟨.hbm, 20, rfl⟩
abbrev main_c_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_c_3 : Ref sig .tc := ⟨.hbm, 28, rfl⟩
abbrev main_call0_v0 : Ref sig .tc := ⟨.hbm, 29, rfl⟩
abbrev main_call0_c : Ref sig .tc := ⟨.hbm, 30, rfl⟩
abbrev main_call0_v1 : Ref sig .tc := ⟨.hbm, 31, rfl⟩
abbrev main_call0_c_0 : Ref sig .tc := ⟨.hbm, 32, rfl⟩
abbrev main_call0_v2 : Ref sig .tc := ⟨.hbm, 33, rfl⟩
abbrev main_call0_v3 : Ref sig .tc := ⟨.hbm, 34, rfl⟩
abbrev main_call0_v4 : Ref sig .tc := ⟨.hbm, 35, rfl⟩
abbrev main_call0_c_1 : Ref sig .tc := ⟨.hbm, 36, rfl⟩
abbrev main_call0_v5 : Ref sig .tc := ⟨.hbm, 37, rfl⟩
abbrev main_call0_v6 : Ref sig .tc := ⟨.hbm, 38, rfl⟩
abbrev main_call0_c_2 : Ref sig .tc := ⟨.hbm, 39, rfl⟩
abbrev main_call0_v7 : Ref sig .tc := ⟨.hbm, 40, rfl⟩
abbrev main_call0_v8 : Ref sig .tc := ⟨.hbm, 41, rfl⟩
abbrev main_call0_c_3 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_c_4 : Ref sig .tc := ⟨.hbm, 53, rfl⟩
abbrev main_call1_v0 : Ref sig .tc := ⟨.hbm, 54, rfl⟩
abbrev main_call1_c : Ref sig .tc := ⟨.hbm, 55, rfl⟩
abbrev main_call1_v1 : Ref sig .tc := ⟨.hbm, 56, rfl⟩
abbrev main_call1_c_0 : Ref sig .tc := ⟨.hbm, 57, rfl⟩
abbrev main_call1_v2 : Ref sig .tc := ⟨.hbm, 58, rfl⟩
abbrev main_call1_v3 : Ref sig .tc := ⟨.hbm, 59, rfl⟩
abbrev main_call1_v4 : Ref sig .tc := ⟨.hbm, 60, rfl⟩
abbrev main_call1_c_1 : Ref sig .tc := ⟨.hbm, 61, rfl⟩
abbrev main_call1_v5 : Ref sig .tc := ⟨.hbm, 62, rfl⟩
abbrev main_call1_v6 : Ref sig .tc := ⟨.hbm, 63, rfl⟩
abbrev main_call1_c_2 : Ref sig .tc := ⟨.hbm, 64, rfl⟩
abbrev main_call1_v7 : Ref sig .tc := ⟨.hbm, 65, rfl⟩
abbrev main_call1_v8 : Ref sig .tc := ⟨.hbm, 66, rfl⟩
abbrev main_call1_c_3 : Ref sig .tc := ⟨.hbm, 67, rfl⟩
abbrev main_call1_v9 : Ref sig .tc := ⟨.hbm, 68, rfl⟩
abbrev main_call1_v10 : Ref sig .tc := ⟨.hbm, 69, rfl⟩
abbrev main_call1_v11 : Ref sig .tc := ⟨.hbm, 70, rfl⟩
abbrev main_call1_v12 : Ref sig .tc := ⟨.hbm, 71, rfl⟩
abbrev main_call1_v13 : Ref sig .tc := ⟨.hbm, 72, rfl⟩
abbrev main_call1_v14 : Ref sig .tc := ⟨.hbm, 73, rfl⟩
abbrev main_v25 : Ref sig .tc := ⟨.hbm, 74, rfl⟩
abbrev main_c_5 : Ref sig .tc := ⟨.hbm, 75, rfl⟩
abbrev main_v26 : Ref sig .tc := ⟨.hbm, 76, rfl⟩
abbrev main_v27 : Ref sig .tc := ⟨.hbm, 77, rfl⟩
abbrev main_c_6 : Ref sig .tc := ⟨.hbm, 78, rfl⟩
abbrev main_v28 : Ref sig .tc := ⟨.hbm, 79, rfl⟩
abbrev main_v29 : Ref sig .tc := ⟨.hbm, 80, rfl⟩
abbrev main_c_7 : Ref sig .tc := ⟨.hbm, 81, rfl⟩
abbrev main_v30 : Ref sig .tc := ⟨.hbm, 82, rfl⟩
abbrev main_v31 : Ref sig .tc := ⟨.hbm, 83, rfl⟩
abbrev main_c_8 : Ref sig .tc := ⟨.hbm, 84, rfl⟩
abbrev main_v32 : Ref sig .tc := ⟨.hbm, 85, rfl⟩
abbrev main_v33 : Ref sig .tc := ⟨.hbm, 86, rfl⟩
abbrev main_c_9 : Ref sig .tc := ⟨.hbm, 87, rfl⟩
abbrev main_v34 : Ref sig .tc := ⟨.hbm, 88, rfl⟩
abbrev main_v35 : Ref sig .tc := ⟨.hbm, 89, rfl⟩
abbrev main_c_10 : Ref sig .tc := ⟨.hbm, 90, rfl⟩
abbrev main_v36 : Ref sig .tc := ⟨.hbm, 91, rfl⟩
abbrev main_v37 : Ref sig .tc := ⟨.hbm, 92, rfl⟩
abbrev main_c_11 : Ref sig .tc := ⟨.hbm, 93, rfl⟩
abbrev main_v38 : Ref sig .tc := ⟨.hbm, 94, rfl⟩
abbrev main_v39 : Ref sig .tc := ⟨.hbm, 95, rfl⟩
abbrev main_v40 : Ref sig .tc := ⟨.hbm, 96, rfl⟩
abbrev main_v41 : Ref sig .tc := ⟨.hbm, 97, rfl⟩
abbrev main_v42 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_v46 : Ref sig .tc := ⟨.hbm, 102, rfl⟩
abbrev main_call2_c : Ref sig .tc := ⟨.hbm, 103, rfl⟩
abbrev main_call2_v0 : Ref sig .tc := ⟨.hbm, 104, rfl⟩
abbrev main_call2_v1 : Ref sig .tc := ⟨.hbm, 105, rfl⟩
abbrev main_call2_c_0 : Ref sig .tc := ⟨.hbm, 106, rfl⟩
abbrev main_call2_v2 : Ref sig .tc := ⟨.hbm, 107, rfl⟩
abbrev main_call2_v3 : Ref sig .tc := ⟨.hbm, 108, rfl⟩
abbrev main_call2_v4 : Ref sig .tc := ⟨.hbm, 109, rfl⟩
abbrev main_call2_v5 : Ref sig .tc := ⟨.hbm, 110, rfl⟩
abbrev main_call2_c_1 : Ref sig .tc := ⟨.hbm, 111, rfl⟩
abbrev main_call2_c_2 : Ref sig .tc := ⟨.hbm, 112, rfl⟩
abbrev main_call2_v6 : Ref sig .tc := ⟨.hbm, 113, rfl⟩
abbrev main_call2_v7 : Ref sig .tc := ⟨.hbm, 114, rfl⟩
abbrev main_call2_v8 : Ref sig .tc := ⟨.hbm, 115, rfl⟩
abbrev main_call2_v9 : Ref sig .tc := ⟨.hbm, 116, rfl⟩
abbrev main_call2_v10 : Ref sig .tc := ⟨.hbm, 117, rfl⟩
abbrev main_call2_v11 : Ref sig .tc := ⟨.hbm, 118, rfl⟩
abbrev main_call2_c_3 : Ref sig .tc := ⟨.hbm, 119, rfl⟩
abbrev main_call2_v12 : Ref sig .tc := ⟨.hbm, 120, rfl⟩
abbrev main_call2_v13 : Ref sig .tc := ⟨.hbm, 121, rfl⟩
abbrev main_call2_v14 : Ref sig .tc := ⟨.hbm, 122, rfl⟩
abbrev main_call2_cst : Ref sig .tc := ⟨.hbm, 123, rfl⟩
abbrev main_call2_v15 : Ref sig .tc := ⟨.hbm, 124, rfl⟩
abbrev main_v47 : Ref sig .tc := ⟨.hbm, 125, rfl⟩
abbrev main_v48 : Ref sig .tc := ⟨.hbm, 126, rfl⟩
abbrev main_v49 : Ref sig .tc := ⟨.hbm, 127, rfl⟩
abbrev main_v50 : Ref sig .tc := ⟨.hbm, 128, rfl⟩
abbrev main_v51 : Ref sig .tc := ⟨.hbm, 129, rfl⟩
abbrev main_v52 : Ref sig .tc := ⟨.hbm, 130, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_scratch1 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev barrier1 : Sem sig := 2

abbrev nD : Nat := 8
abbrev τ : Topo := Topo.v7x

variable {F : FTy → Type} [FloatOps F]

abbrev grid0 : Pipeline.Grid := .none

def k0_dev1 (d0 : Dev nD) : Nat :=
  let c0_i32_15 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_14 : BitVec 32 := 1#32
  let v26 : BitVec 32 := Scalar.muli v13 c1_i32_14
  let v27 : BitVec 32 := Scalar.addi c0_i32_15 v26
  v27.toNat
def k0_dev2 (d0 : Dev nD) : Nat :=
  let c0_i32_18 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_17 : BitVec 32 := 1#32
  let v28 : BitVec 32 := Scalar.muli v24 c1_i32_17
  let v29 : BitVec 32 := Scalar.addi c0_i32_18 v28
  v29.toNat
def k0_dev3 (d0 : Dev nD) : Nat :=
  let c0_i32_33 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_32 : BitVec 32 := 1#32
  let v40 : BitVec 32 := Scalar.muli v24 c1_i32_32
  let v41 : BitVec 32 := Scalar.addi c0_i32_33 v40
  v41.toNat
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_42 : BitVec 32 := 1#32
  let v50 : BitVec 32 := Scalar.muli v13 c1_i32_42
  let v51 : BitVec 32 := Scalar.addi c0_i32_43 v50
  v51.toNat
def k0_dev5 (d0 : Dev nD) : Nat :=
  let c0_i32_104 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_103 : BitVec 32 := 1#32
  let v116 : BitVec 32 := Scalar.muli v13 c1_i32_103
  let v117 : BitVec 32 := Scalar.addi c0_i32_104 v116
  v117.toNat
def k0_dev6 (d0 : Dev nD) : Nat :=
  let c0_i32_107 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_106 : BitVec 32 := 1#32
  let v118 : BitVec 32 := Scalar.muli v24 c1_i32_106
  let v119 : BitVec 32 := Scalar.addi c0_i32_107 v118
  v119.toNat
def k0_dev7 (d0 : Dev nD) : Nat :=
  let c0_i32_117 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_116 : BitVec 32 := 1#32
  let v120 : BitVec 32 := Scalar.muli v24 c1_i32_116
  let v121 : BitVec 32 := Scalar.addi c0_i32_117 v120
  v121.toNat
def k0_dev8 (d0 : Dev nD) : Nat :=
  let c0_i32_127 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_126 : BitVec 32 := 1#32
  let v130 : BitVec 32 := Scalar.muli v13 c1_i32_126
  let v131 : BitVec 32 := Scalar.addi c0_i32_127 v130
  v131.toNat
def k0_dev9 (d0 : Dev nD) : Nat :=
  let c0_i32_190 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_189 : BitVec 32 := 1#32
  let v199 : BitVec 32 := Scalar.muli v13 c1_i32_189
  let v200 : BitVec 32 := Scalar.addi c0_i32_190 v199
  v200.toNat
def k0_dev10 (d0 : Dev nD) : Nat :=
  let c0_i32_193 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_192 : BitVec 32 := 1#32
  let v201 : BitVec 32 := Scalar.muli v24 c1_i32_192
  let v202 : BitVec 32 := Scalar.addi c0_i32_193 v201
  v202.toNat
def k0_dev11 (d0 : Dev nD) : Nat :=
  let c0_i32_203 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_202 : BitVec 32 := 1#32
  let v203 : BitVec 32 := Scalar.muli v24 c1_i32_202
  let v204 : BitVec 32 := Scalar.addi c0_i32_203 v203
  v204.toNat
def k0_dev12 (d0 : Dev nD) : Nat :=
  let c0_i32_213 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_212 : BitVec 32 := 1#32
  let v213 : BitVec 32 := Scalar.muli v13 c1_i32_212
  let v214 : BitVec 32 := Scalar.addi c0_i32_213 v213
  v214.toNat
def k0_dev13 (d0 : Dev nD) : Nat :=
  let c0_i32_276 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_275 : BitVec 32 := 1#32
  let v282 : BitVec 32 := Scalar.muli v13 c1_i32_275
  let v283 : BitVec 32 := Scalar.addi c0_i32_276 v282
  v283.toNat
def k0_dev14 (d0 : Dev nD) : Nat :=
  let c0_i32_279 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_278 : BitVec 32 := 1#32
  let v284 : BitVec 32 := Scalar.muli v24 c1_i32_278
  let v285 : BitVec 32 := Scalar.addi c0_i32_279 v284
  v285.toNat
def k0_dev15 (d0 : Dev nD) : Nat :=
  let c0_i32_289 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_288 : BitVec 32 := 1#32
  let v286 : BitVec 32 := Scalar.muli v24 c1_i32_288
  let v287 : BitVec 32 := Scalar.addi c0_i32_289 v286
  v287.toNat
def k0_dev16 (d0 : Dev nD) : Nat :=
  let c0_i32_299 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_298 : BitVec 32 := 1#32
  let v296 : BitVec 32 := Scalar.muli v13 c1_i32_298
  let v297 : BitVec 32 := Scalar.addi c0_i32_299 v296
  v297.toNat
def k0_dev17 (d0 : Dev nD) : Nat :=
  let c0_i32_362 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_361 : BitVec 32 := 1#32
  let v365 : BitVec 32 := Scalar.muli v13 c1_i32_361
  let v366 : BitVec 32 := Scalar.addi c0_i32_362 v365
  v366.toNat
def k0_dev18 (d0 : Dev nD) : Nat :=
  let c0_i32_365 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_364 : BitVec 32 := 1#32
  let v367 : BitVec 32 := Scalar.muli v24 c1_i32_364
  let v368 : BitVec 32 := Scalar.addi c0_i32_365 v367
  v368.toNat
def k0_dev19 (d0 : Dev nD) : Nat :=
  let c0_i32_375 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_374 : BitVec 32 := 1#32
  let v369 : BitVec 32 := Scalar.muli v24 c1_i32_374
  let v370 : BitVec 32 := Scalar.addi c0_i32_375 v369
  v370.toNat
def k0_dev20 (d0 : Dev nD) : Nat :=
  let c0_i32_385 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_384 : BitVec 32 := 1#32
  let v379 : BitVec 32 := Scalar.muli v13 c1_i32_384
  let v380 : BitVec 32 := Scalar.addi c0_i32_385 v379
  v380.toNat
def k0_dev21 (d0 : Dev nD) : Nat :=
  let c0_i32_448 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_447 : BitVec 32 := 1#32
  let v448 : BitVec 32 := Scalar.muli v13 c1_i32_447
  let v449 : BitVec 32 := Scalar.addi c0_i32_448 v448
  v449.toNat
def k0_dev22 (d0 : Dev nD) : Nat :=
  let c0_i32_451 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_450 : BitVec 32 := 1#32
  let v450 : BitVec 32 := Scalar.muli v24 c1_i32_450
  let v451 : BitVec 32 := Scalar.addi c0_i32_451 v450
  v451.toNat
def k0_dev23 (d0 : Dev nD) : Nat :=
  let c0_i32_461 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_460 : BitVec 32 := 1#32
  let v452 : BitVec 32 := Scalar.muli v24 c1_i32_460
  let v453 : BitVec 32 := Scalar.addi c0_i32_461 v452
  v453.toNat
def k0_dev24 (d0 : Dev nD) : Nat :=
  let c0_i32_471 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_470 : BitVec 32 := 1#32
  let v462 : BitVec 32 := Scalar.muli v13 c1_i32_470
  let v463 : BitVec 32 := Scalar.addi c0_i32_471 v462
  v463.toNat
def k0_dev25 (d0 : Dev nD) : Nat :=
  let c0_i32_534 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_533 : BitVec 32 := 1#32
  let v531 : BitVec 32 := Scalar.muli v13 c1_i32_533
  let v532 : BitVec 32 := Scalar.addi c0_i32_534 v531
  v532.toNat
def k0_dev26 (d0 : Dev nD) : Nat :=
  let c0_i32_537 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_536 : BitVec 32 := 1#32
  let v533 : BitVec 32 := Scalar.muli v24 c1_i32_536
  let v534 : BitVec 32 := Scalar.addi c0_i32_537 v533
  v534.toNat
def k0_dev27 (d0 : Dev nD) : Nat :=
  let c0_i32_547 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_6 : BitVec 32 := 1#32
  let v14 : BitVec 32 := Scalar.addi v2 c1_i32_6
  let c8_i32_7 : BitVec 32 := 8#32
  let c0_i32_8 : BitVec 32 := 0#32
  let v15 : BitVec 1 := Scalar.cmpi .eq c8_i32_7 c0_i32_8
  let c1_i32_9 : BitVec 32 := 1#32
  let v16 : BitVec 32 := Scalar.select v15 c1_i32_9 c8_i32_7
  let v17 : BitVec 32 := Scalar.remsi v14 v16
  let c0_i32_11 : BitVec 32 := 0#32
  let v19 : BitVec 1 := Scalar.cmpi .slt v17 c0_i32_11
  let c0_i32_12 : BitVec 32 := 0#32
  let v20 : BitVec 1 := Scalar.cmpi .slt v16 c0_i32_12
  let v21 : BitVec 1 := Scalar.xori v19 v20
  let c0_i32_10 : BitVec 32 := 0#32
  let v18 : BitVec 1 := Scalar.cmpi .ne v17 c0_i32_10
  let v22 : BitVec 1 := Scalar.andi v21 v18
  let v23 : BitVec 32 := Scalar.addi v17 v16
  let v24 : BitVec 32 := Scalar.select v22 v23 v17
  let c1_i32_546 : BitVec 32 := 1#32
  let v535 : BitVec 32 := Scalar.muli v24 c1_i32_546
  let v536 : BitVec 32 := Scalar.addi c0_i32_547 v535
  v536.toNat
def k0_dev28 (d0 : Dev nD) : Nat :=
  let c0_i32_557 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_0 : BitVec 32 := 1#32
  let v3 : BitVec 32 := Scalar.subi v2 c1_i32_0
  let c8_i32_1 : BitVec 32 := 8#32
  let c0_i32 : BitVec 32 := 0#32
  let v4 : BitVec 1 := Scalar.cmpi .eq c8_i32_1 c0_i32
  let c1_i32_2 : BitVec 32 := 1#32
  let v5 : BitVec 32 := Scalar.select v4 c1_i32_2 c8_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_556 : BitVec 32 := 1#32
  let v545 : BitVec 32 := Scalar.muli v13 c1_i32_556
  let v546 : BitVec 32 := Scalar.addi c0_i32_557 v545
  v546.toNat
abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x32 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== ReferenceIdeal.lean ====
abbrev S8192x512 : Shape := ⟨2, ![8192, 512]⟩
abbrev S8192x1 : Shape := ⟨2, ![8192, 1]⟩
abbrev S8192x32 : Shape := ⟨2, ![8192, 32]⟩
abbrev S32x512x1024 : Shape := ⟨3, ![32, 512, 1024]⟩
abbrev S32 : Shape := ⟨1, ![32]⟩
abbrev S1x32 : Shape := ⟨2, ![1, 32]⟩
abbrev S_ : Shape := ⟨0, ![]⟩
abbrev S8192x32x1024 : Shape := ⟨3, ![8192, 32, 1024]⟩
abbrev S8192x32x1 : Shape := ⟨3, ![8192, 32, 1]⟩
abbrev S8192x1024 : Shape := ⟨2, ![8192, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1, .i32⟩
  | .hbm, ⟨2, _⟩ => ⟨S8192x32, .i32⟩
  | .hbm, ⟨3, _⟩ => ⟨S32x512x1024, .bf16⟩
  | .hbm, ⟨4, _⟩ => ⟨S32, .i32⟩
  | .hbm, ⟨5, _⟩ => ⟨S1x32, .i32⟩
  | .hbm, ⟨6, _⟩ => ⟨S8192x32, .i32⟩
  | .hbm, ⟨7, _⟩ => ⟨S8192x32, .i32⟩
  | .hbm, ⟨8, _⟩ => ⟨S8192x32, .i1⟩
  | .hbm, ⟨9, _⟩ => ⟨S_, .i32⟩
  | .hbm, ⟨10, _⟩ => ⟨S8192x32, .i32⟩
  | .hbm, ⟨11, _⟩ => ⟨S8192x32, .i1⟩
  | .hbm, ⟨12, _⟩ => ⟨S8192x32, .i1⟩
  | .hbm, ⟨13, _⟩ => ⟨S8192x512, .f32⟩
  | .hbm, ⟨14, _⟩ => ⟨S32x512x1024, .f32⟩
  | .hbm, ⟨15, _⟩ => ⟨S8192x32x1024, .f32⟩
  | .hbm, ⟨16, _⟩ => ⟨S8192x32x1, .i1⟩
  | .hbm, ⟨17, _⟩ => ⟨S_, .f32⟩
  | .hbm, ⟨18, _⟩ => ⟨S8192x32x1024, .i1⟩
  | .hbm, ⟨19, _⟩ => ⟨S8192x32x1024, .f32⟩
  | .hbm, ⟨20, _⟩ => ⟨S8192x32x1024, .f32⟩
  | .hbm, ⟨21, _⟩ => ⟨S_, .f32⟩
  | .hbm, ⟨22, _⟩ => ⟨S8192x1024, .f32⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_call0_v0 : Ref sig .tc := ⟨.hbm, 18, rfl⟩
abbrev main_call0_v1 : Ref sig .tc := ⟨.hbm, 19, rfl⟩
abbrev main_v12 : Ref sig .tc := ⟨.hbm, 20, rfl⟩
abbrev main_cst_0 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== Proof.RunKernelIdeal.Prog.lean ====
/-
  THE KERNEL'S PROGRAM IN LOOP FORM. The printed body is a long straight line, cut in parts. Here it is written again as a sequence of a few pieces that take the hop (or the step) as a number,
  and shown equal to the printed one by unfolding. Every later file speaks of the pieces.
-/
module

public import proofs.«01_k».proof.Proof.Gen.KernelIdeal.Skeleton
public import Idealize.ShloMosaic.Lib.Pipeline.TalkSched
public import Idealize.ShloMosaic.Lib.Pipeline.TalkReads

@[expose] public section

set_option synthInstance.maxSize 4096

noncomputable section

namespace Cert.Proof.RunKernelIdeal

open Idealize.ShloMosaic Idealize.SL.Sem Cert.KernelIdeal Cert.KernelIdeal.Gen

variable {F : FTy → Type} [FloatOps F]

/-- A program of one TensorCore that ends with a value of type α. -/
abbrev Prg (F : FTy → Type) [FloatOps F] (α : Type) := Prog (TpuEff nD τ sig (Elt F) Λ₀ .tc) α

/-- The device k places further round the mesh. -/
def ahead (k : ℕ) (c : Dev nD) : Dev nD := Fin.ofNat nD (c.val + k)
/-- The device k places back round the mesh. -/
def behind (k : ℕ) (c : Dev nD) : Dev nD := Fin.ofNat nD (c.val + (8 - k % 8))

/-! ## The ring -/

/-- The buffer half that is read in hop h: h modulo 2. -/
def cur (h : ℕ) : Fin 2 := ⟨h % 2, Nat.mod_lt _ (by decide)⟩
theorem cur_two (h : ℕ) : cur (h + 2) = cur h := Fin.ext (by simp [cur])

theorem half_inb : ∀ (b : Fin 2) (a : Fin 3), (![b.val, 0, 0] : Fin 3 → Nat) a + S1x1024x1024.size a ≤ S2x1024x1024.size a := by decide
theorem col_inb : ∀ (n : Fin 32) (a : Fin 2), (![0, n.val] : Fin 2 → Nat) a + S1024x1.size a ≤ S1024x32.size a := by decide
/-- Half b of a ring buffer. -/
abbrev halfR (b : Fin 2) : Rect S2x1024x1024 := Rect.unit (s := S2x1024x1024) ![b.val, 0, 0] S1x1024x1024.size (half_inb b)
theorem half_packed : ∀ b : Fin 2, (halfR b).PackedRows (EltTy.packing .bf16)
  | 0 => packedbf16_S2x1024x1024_S1x1024x1024_0_0_0
  | 1 => by decide
theorem half_words : ∀ b : Fin 2, (halfR b).WholeWords (EltTy.packing .bf16)
  | 0 => wordsbf16_S2x1024x1024_S1x1024x1024_0_0_0
  | 1 => wordsbf16_S2x1024x1024_S1x1024x1024_1_0_0

/-- The two ring buffers: false is the clockwise one, true the counterclockwise one. -/
def ringBuf : Bool → Memref sig .tc .vmem S2x1024x1024 .bf16
  | false => Memref.whole cc0_scratch0
  | true => Memref.whole cc0_scratch1
theorem ringBuf_whole : ∀ d, (ringBuf d).IsWhole
  | false => Memref.isWhole_whole _
  | true => Memref.isWhole_whole _
/-- Half b of ring buffer d as a matrix: what one hop's copy reads or writes. -/
abbrev halfM (d : Bool) (b : Fin 2) : Memref sig .tc .vmem S1024x1024 .bf16 := ((ringBuf d).slice (halfR b) (fun _ => rfl)).squeeze S1024x1024 squeezes_S1x1024x1024_S1024x1024
theorem half_exact (d : Bool) (b : Fin 2) : (halfM d b).view.WordExact := ((ringBuf_whole d).wordExact_slice rfl _ (half_words b)).reshape _ _

/-- The send counter of direction d and half b. -/
def sendSem (d : Bool) (b : Fin 2) : DmaSem sig := ⟨5 + 4 * d.toNat + b.val, by have := b.isLt; cases d <;> simp <;> omega⟩
/-- The receive counter of direction d and half b. -/
def recvSem (d : Bool) (b : Fin 2) : DmaSem sig := ⟨7 + 4 * d.toNat + b.val, by have := b.isLt; cases d <;> simp <;> omega⟩
/-- The credit counter of direction d. -/
def credSem (d : Bool) : Sem sig := ⟨d.toNat, by cases d <;> decide⟩

/-- The copy of hop h in direction d, to device e. -/
def startCopy (d : Bool) (h : ℕ) (e : Dev nD) : Prg F PUnit :=
  Prog.lift (.enqueueDma (halfM d (cur h)) (.remote (Dev.tc e) (halfM d (cur (h + 1))) (.dma (sendSem d (cur h)))) (.dma (recvSem d (cur (h + 1))))
    (half_exact d _) (half_exact d _) ⟨⟨rfl, Or.inl rfl⟩, trivial⟩)
/-- The wait for the hop's own copy to have left. -/
def waitSent (d : Bool) (h : ℕ) : Prg F PUnit := Prog.lift (.waitDma2 (sendSem d (cur h)) (halfM d (cur (h + 1))) (halfM d (cur h)) (half_exact d _) (half_exact d _))
/-- The wait for the neighbour's copy to have come. -/
def waitCome (d : Bool) (h : ℕ) : Prg F PUnit := Prog.lift (.waitDma2 (recvSem d (cur (h + 1))) (halfM d (cur h)) (halfM d (cur (h + 1))) (half_exact d _) (half_exact d _))

section Body
variable (arg0 : Memref sig .tc .vmem S1024x512 .bf16) (arg1 : Memref sig .tc .vmem S1024x32 .bf16) (arg2 arg3 : Memref sig .tc .vmem S1024x1024 .bf16)
  (arg5 : Memref sig .tc .vmem S1024x1024 .f32)

/-- A weight matrix read from its window. -/
def loadW (arg : Memref sig .tc .vmem S1024x1024 .bf16) : Prg F (Vec F S1024x1024 .bf16) :=
  Prog.lift (.load arg (Rect.unit (s := S1024x1024) ![0, 0] S1024x1024.size inb_S1024x1024_S1024x1024_0_0).toLoadRect (View.loadsAt_vmem h_S1024x1024))
def loadZero (d : Bool) : Prg F (Vec F S1x1024x1024 .bf16) := Prog.lift (.load (ringBuf d) (halfR 0).toLoadRect (View.loadsAt_vmem h_S1x1024x1024))
def storeZero (d : Bool) (w : Vec F S1024x1024 .bf16) : Prg F PUnit :=
  Prog.lift (.store (ringBuf d) (halfR 0) (k0_pay2 w) Finset.univ
    (View.stores_vmem h_S1x1024x1024 ((ringBuf_whole d).storeExact_slice rfl _ packedbf16_S2x1024x1024_S1x1024x1024_0_0_0) (fun _ => rfl)) (.inl rfl))
/-- One of the two weight matrices put in half 0 of its ring buffer. -/
def putFirst (d : Bool) (arg : Memref sig .tc .vmem S1024x1024 .bf16) : Prg F PUnit := do
  let w ← loadW arg
  let _ ← loadZero d
  storeZero d w

/-- The column n of the scattered mask. -/
def loadCol (n : Fin 32) : Prg F (Vec F S1024x1 .bf16) := Prog.lift (.load arg1 (Rect.unit (s := S1024x32) ![0, n.val] S1024x1.size (col_inb n)).toLoadRect (View.loadsAt_vmem h_S1024x1))
/-- The half of ring buffer d that hop h reads. -/
def loadHalf (d : Bool) (h : ℕ) : Prg F (Vec F S1x1024x1024 .bf16) := Prog.lift (.load (ringBuf d) (halfR (cur h)).toLoadRect (View.loadsAt_vmem h_S1x1024x1024))
def loadX : Prg F (Vec F S1024x512 .bf16) := Prog.lift (.load arg0 (Rect.unit (s := S1024x512) ![0, 0] S1024x512.size inb_S1024x512_S1024x512_0_0).toLoadRect (View.loadsAt_vmem h_S1024x512))
def loadOut : Prg F (Vec F S1024x1024 .f32) := Prog.lift (.load arg5 (Rect.unit (s := S1024x1024) ![0, 0] S1024x1024.size inb_S1024x1024_S1024x1024_0_0).toLoadRect (View.loadsAt_vmem h_S1024x1024))
def storeOut (v : Vec F S1024x1024 .f32) : Prg F PUnit :=
  Prog.lift (.store arg5 (Rect.unit (s := S1024x1024) ![0, 0] S1024x1024.size inb_S1024x1024_S1024x1024_0_0) v Finset.univ (View.stores_vmem_bits_univ h_S1024x1024 rfl) (.inl rfl))

/-- The sum of the first hop. -/
def computeFirst : Prg F PUnit := do
  let x ← loadX arg0
  let a0 ← loadCol arg1 0
  let a1 ← loadCol arg1 1
  let w ← loadHalf false 0
  let a2 ← loadCol arg1 2
  let a3 ← loadCol arg1 3
  let w' ← loadHalf true 0
  let _ ← loadOut arg5
  storeOut arg5 (k0_pay4 x a0 a1 w a2 a3 w')
/-- Column j of hop h. -/
def colOf (h : ℕ) (j : ℕ) : Fin 32 := ⟨(4 * h + j) % 32, Nat.mod_lt _ (by decide)⟩
/-- The sum of a later hop: what the result holds, and the hop's two products. -/
def compute (h : ℕ) : Prg F PUnit := do
  let x ← loadX arg0
  let a0 ← loadCol arg1 (colOf h 0)
  let a1 ← loadCol arg1 (colOf h 1)
  let w ← loadHalf false h
  let a2 ← loadCol arg1 (colOf h 2)
  let a3 ← loadCol arg1 (colOf h 3)
  let w' ← loadHalf true h
  let y ← loadOut arg5
  let _ ← loadOut arg5
  storeOut arg5 (k0_pay5 x a0 a1 w a2 a3 w' y)

/-- The barrier with the two neighbours. -/
def barrier (l r : Dev nD) : Prg F PUnit := do
  semSignalWord l (2 : Sem sig) 1#32
  semSignalWord r (2 : Sem sig) 1#32
  semWaitWord (2 : Sem sig) 2#32
def startCopies (h : ℕ) (e e' : Dev nD) : Prg F PUnit := do
  startCopy false h e
  startCopy true h e'
def waitCopies (h : ℕ) : Prg F PUnit := do
  waitSent false h
  waitCome false h
  waitSent true h
  waitCome true h
def giveCredits (e e' : Dev nD) : Prg F PUnit := do
  semSignalWord e (credSem false) 1#32
  semSignalWord e' (credSem true) 1#32
def takeCredits : Prg F PUnit := do
  semWaitWord (credSem false) 1#32
  semWaitWord (credSem true) 1#32

/-- A hop from 1 to 5: credits, copies, sum, waits, credits. -/
def hop (dv : ℕ → Dev nD) (h : ℕ) : Prg F PUnit := do
  takeCredits
  startCopies h (dv (3 + 4 * h)) (dv (4 + 4 * h))
  compute arg0 arg1 arg5 h
  waitCopies h
  giveCredits (dv (5 + 4 * h)) (dv (6 + 4 * h))

/-- The ring's program, the devices it names being `dv 1`, `dv 2`, … -/
def ringProg (dv : Dev nD → ℕ → Dev nD) : Prg F PUnit := do
  let c ← Prog.lift .deviceId
  barrier (dv c 1) (dv c 2)
  putFirst false arg2
  putFirst true arg3
  startCopies 0 (dv c 3) (dv c 4)
  computeFirst arg0 arg1 arg5
  waitCopies 0
  giveCredits (dv c 5) (dv c 6)
  hop arg0 arg1 arg5 (dv c) 1
  hop arg0 arg1 arg5 (dv c) 2
  hop arg0 arg1 arg5 (dv c) 3
  hop arg0 arg1 arg5 (dv c) 4
  hop arg0 arg1 arg5 (dv c) 5
  takeCredits
  startCopies 6 (dv c 27) (dv c 28)
  compute arg0 arg1 arg5 6
  waitCopies 6
  compute arg0 arg1 arg5 7
end Body

/-- The devices by their place: each is the neighbour behind or the neighbour ahead. -/
def nbRing (c : Dev nD) (n : ℕ) : Dev nD := if n % 4 = 1 ∨ n % 4 = 0 then behind 1 c else ahead 1 c
/-- The devices as the printed body computes them. -/
def dvRing (c : Dev nD) : ℕ → Dev nD
  | 1 => ⟨k0_dev1 c, k0_dev1_lt c⟩
  | 2 => ⟨k0_dev2 c, k0_dev2_lt c⟩
  | 3 => ⟨k0_dev3 c, k0_dev3_lt c⟩
  | 4 => ⟨k0_dev4 c, k0_dev4_lt c⟩
  | 5 => ⟨k0_dev5 c, k0_dev5_lt c⟩
  | 6 => ⟨k0_dev6 c, k0_dev6_lt c⟩
  | 7 => ⟨k0_dev7 c, k0_dev7_lt c⟩
  | 8 => ⟨k0_dev8 c, k0_dev8_lt c⟩
  | 9 => ⟨k0_dev9 c, k0_dev9_lt c⟩
  | 10 => ⟨k0_dev10 c, k0_dev10_lt c⟩
  | 11 => ⟨k0_dev11 c, k0_dev11_lt c⟩
  | 12 => ⟨k0_dev12 c, k0_dev12_lt c⟩
  | 13 => ⟨k0_dev13 c, k0_dev13_lt c⟩
  | 14 => ⟨k0_dev14 c, k0_dev14_lt c⟩
  | 15 => ⟨k0_dev15 c, k0_dev15_lt c⟩
  | 16 => ⟨k0_dev16 c, k0_dev16_lt c⟩
  | 17 => ⟨k0_dev17 c, k0_dev17_lt c⟩
  | 18 => ⟨k0_dev18 c, k0_dev18_lt c⟩
  | 19 => ⟨k0_dev19 c, k0_dev19_lt c⟩
  | 20 => ⟨k0_dev20 c, k0_dev20_lt c⟩
  | 21 => ⟨k0_dev21 c, k0_dev21_lt c⟩
  | 22 => ⟨k0_dev22 c, k0_dev22_lt c⟩
  | 23 => ⟨k0_dev23 c, k0_dev23_lt c⟩
  | 24 => ⟨k0_dev24 c, k0_dev24_lt c⟩
  | 25 => ⟨k0_dev25 c, k0_dev25_lt c⟩
  | 26 => ⟨k0_dev26 c, k0_dev26_lt c⟩
  | 27 => ⟨k0_dev27 c, k0_dev27_lt c⟩
  | 28 => ⟨k0_dev28 c, k0_dev28_lt c⟩
  | n => nbRing c n
theorem dvRing_at : ∀ (c : Dev nD) (n : Fin 29), dvRing c n.val = nbRing c n.val := by decide +kernel
theorem dvRing_eq : dvRing = nbRing := by
  funext c n
  by_cases h : n < 29
  · exact dvRing_at c ⟨n, h⟩
  · obtain ⟨k, rfl⟩ : ∃ k, n = k + 29 := ⟨n - 29, by omega⟩
    rfl

theorem ring_unfold (arg0 : Memref sig .tc .vmem S1024x512 .bf16) (harg0 : arg0.IsWhole) (arg1 : Memref sig .tc .vmem S1024x32 .bf16) (harg1 : arg1.IsWhole)
    (arg2 : Memref sig .tc .vmem S1024x1024 .bf16) (harg2 : arg2.IsWhole) (arg3 : Memref sig .tc .vmem S1024x1024 .bf16) (harg3 : arg3.IsWhole)
    (arg5 : Memref sig .tc .vmem S1024x1024 .f32) (harg5 : arg5.IsWhole) :
    cc0_body (F := F) arg0 harg0 arg1 harg1 arg2 harg2 arg3 harg3 arg5 harg5 (Memref.whole cc0_scratch0) (Memref.isWhole_whole _) (Memref.whole cc0_scratch1)
      (Memref.isWhole_whole _) cc0_scratch2 cc0_scratch3 cc0_scratch4 cc0_scratch5 cc0_scratch6 cc0_scratch7 = ringProg arg0 arg1 arg2 arg3 arg5 dvRing := by
  rw [cc0_body_eq_skeleton]
  rfl

/-- The ring's body in loop form, with every device in closed form. -/
theorem ring_eq (arg0 : Memref sig .tc .vmem S1024x512 .bf16) (harg0 : arg0.IsWhole) (arg1 : Memref sig .tc .vmem S1024x32 .bf16) (harg1 : arg1.IsWhole)
    (arg2 : Memref sig .tc .vmem S1024x1024 .bf16) (harg2 : arg2.IsWhole) (arg3 : Memref sig .tc .vmem S1024x1024 .bf16) (harg3 : arg3.IsWhole)
    (arg5 : Memref sig .tc .vmem S1024x1024 .f32) (harg5 : arg5.IsWhole) :
    cc0_body (F := F) arg0 harg0 arg1 harg1 arg2 harg2 arg3 harg3 arg5 harg5 (Memref.whole cc0_scratch0) (Memref.isWhole_whole _) (Memref.whole cc0_scratch1)
      (Memref.isWhole_whole _) cc0_scratch2 cc0_scratch3 cc0_scratch4 cc0_scratch5 cc0_scratch6 cc0_scratch7 = ringProg arg0 arg1 arg2 arg3 arg5 nbRing :=
  (ring_unfold arg0 harg0 arg1 harg1 arg2 harg2 arg3 harg3 arg5 harg5).trans (by rw [dvRing_eq])

end Cert.Proof.RunKernelIdeal

end
-- ==== Proof.RunKernelIdeal.Shape.lean ====
/-
  READING A TABLE THAT IS ONE LIST FOR ALL DEVICES. A shape lists a device's payments in program order, each with the number of the peer that is paid, the semaphore's number, the round, the wait's index
  and the units. From a shape: what the payer needs at payment number i, what the owner gets at a wait, the tokens and the credits of a launch one by one.
-/
module

public import proofs.«01_k».proof.Proof.RunKernelIdeal.Prog
public import Mathlib.Tactic.IntervalCases

@[expose] public section

set_option synthInstance.maxSize 4096

noncomputable section

namespace Cert.Proof.RunKernelIdeal

open Idealize.ShloMosaic Idealize.SL Idealize.SL.RA Idealize.SL.BI Idealize.SL.BI.BIBase Idealize.SL.ProofMode Idealize.SL.Sem
open Idealize.ShloMosaic.Rounds (URounds Schedule dutyTok openTok)
open Idealize.ShloMosaic.TcCoe Idealize.ShloMosaic.TalkSites Idealize.ShloMosaic.SiteBlocks
open scoped Idealize.SL.BI
open Cert.KernelIdeal (nD τ sig)

/-- One payment of a shape: the peer's number, the semaphore's number, the round, the wait's index, the units. -/
abbrev Entry := ℕ × ℕ × ℕ × ℕ × ℕ
/-- Entry i, and a harmless one past the end. -/
def ent (shape : List Entry) (i : ℕ) : Entry := shape.getD i (2, 0, 0, 0, 0)
/-- The entries of a shape that pay semaphore sm in round r, each with its number. -/
def paying (sB : SemLoc sig) (l : List (SemLoc sig)) (shape : List Entry) (sm : SemLoc sig) (r : ℕ) : List (Entry × ℕ) :=
  shape.zipIdx.filter fun x => decide ((sB :: l).getD x.1.2.1 sB = sm ∧ x.1.2.2.1 = r)

variable {F : FTy → Type} [FloatOps F] {U : Type} [URA U]
local notation "𝕄" => MT nD τ sig ℕ (Elt F) ℕ U ℕ

/-- The place of a family's records in the program's ghost state. -/
abbrev Recs (F : FTy → Type) [FloatOps F] (U : Type) [URA U] := Emb (URounds (GSem nD τ sig) (Dev nD × ℕ)) (MT nD τ sig ℕ (Elt F) ℕ U ℕ)

theorem zipIdx_ent (shape : List Entry) : shape.zipIdx = (List.range shape.length).map fun i => (ent shape i, i) := by
  apply List.ext_getElem
  · simp
  · intro i h1 h2
    simp only [List.length_zipIdx] at h1
    simp [ent, h1]

theorem rowsS_zipIdx (shape : List Entry) (peer : ℕ → Dev nD → Dev nD) (c : Dev nD) :
    (rowsS shape peer c).zipIdx = (List.range shape.length).map fun i => (((peer (ent shape i).1 c).val, (ent shape i).2), i) := by
  unfold rowsS
  rw [List.zipIdx_map, zipIdx_ent, List.map_map]
  rfl

/-- A device's token for payment number i. -/
def tokAt (E : Emb (URounds (GSem nD τ sig) (Dev nD × ℕ)) 𝕄) (sB : SemLoc sig) (l : List (SemLoc sig)) (shape : List Entry) (peer : ℕ → Dev nD → Dev nD) (c : Dev nD) (i : ℕ) : sProp 𝕄 :=
  dutyTok E ((peer (ent shape i).1 c : Thread nD τ), (sB :: l).getD (ent shape i).2.1 sB) (ent shape i).2.2.1 (c, i)
/-- A device's credit from the launch for the payment number i that is made to it. -/
def credAt (sB : SemLoc sig) (l : List (SemLoc sig)) (shape : List Entry) (c : Dev nD) (i : ℕ) : sProp 𝕄 :=
  cred (tallyAt ((c : Thread nD τ), (sB :: l).getD (ent shape i).2.1 sB) (ent shape i).2.2.2.1 (ent shape i).2.2.2.2)

theorem toks_split (E : Emb (URounds (GSem nD τ sig) (Dev nD × ℕ)) 𝕄) (sB : SemLoc sig) (l : List (SemLoc sig)) (shape : List Entry) (peer : ℕ → Dev nD → Dev nD) (c : Dev nD) :
    (bigSepL (rowsS shape peer c).zipIdx fun x => dutyTok E (cellN sB l x.1.1 x.1.2.1) x.1.2.2.1 (c, x.2) : sProp 𝕄) = bigSepL (List.range shape.length) (tokAt E sB l shape peer c) := by
  rw [rowsS_zipIdx, bigSepL_map]
  refine congrArg _ (funext fun i => ?_)
  dsimp only
  rw [cellN_val]
  rfl

theorem creds_split (sB : SemLoc sig) (dorm : Fin 1 → List (SemLoc sig)) (shape : List Entry) (peer inv : ℕ → Dev nD → Dev nD)
    (hinv : ∀ s ∈ shape, ∀ c, inv s.1 (peer s.1 c) = c ∧ peer s.1 (inv s.1 c) = c) (c : Dev nD) :
    (Pipeline.launchCred (fun d => tallyL (duesR sB (dorm 0) (rowsS shape peer d))) c : sProp 𝕄) = bigSepL (List.range shape.length) (credAt sB (dorm 0) shape c) := by
  have hin := incoming_perm_of_shape (rows := fun d (_ : Fin 1) => rowsS shape peer d) (j := 0) (fun _ => rfl) hinv c
  refine (launchCred_of (rows := fun d (_ : Fin 1) => rowsS shape peer d) sB (dorm 0) 0 c hin).trans ?_
  unfold insS
  rw [zipIdx_ent, List.map_map, bigSepL_map]
  refine congrArg _ (funext fun i => ?_)
  show (cred (payN sB (dorm 0) (rowPay (c.val, (ent shape i).2))).tally : sProp 𝕄) = _
  unfold rowPay
  rw [payN_val]
  rfl

theorem rowsS_at (shape : List Entry) (peer : ℕ → Dev nD → Dev nD) (c : Dev nD) {i : ℕ} {s : Entry} (h : shape[i]? = some s) : (rowsS shape peer c)[i]? = some ((peer s.1 c).val, s.2) := by
  unfold rowsS
  rw [List.getElem?_map, h]
  rfl

/-- What is owed before payment number i: what is owed after it, and it. -/
theorem dues_step (O : CellTallies nD τ sig ℕ) (sB : SemLoc sig) (l : List (SemLoc sig)) (shape : List Entry) (peer : ℕ → Dev nD → Dev nD) (c : Dev nD) {i : ℕ} {s : Entry} (h : shape[i]? = some s) :
    addL O (duesR sB l ((rowsS shape peer c).drop i))
      = addL O (duesR sB l ((rowsS shape peer c).drop (i + 1))) + tallyAt ((peer s.1 c : Thread nD τ), (sB :: l).getD s.2.1 sB) s.2.2.2.1 s.2.2.2.2 := by
  rw [addL_duesR_drop O sB l (rowsS_at shape peer c h)]
  unfold rowPay
  rw [payN_val]

/-- Every payment left in a list lies at an index between two numbers. -/
theorem dues_between (sB : SemLoc sig) (l : List (SemLoc sig)) (rows : List Row) (i e : ℕ) (h : ∀ s ∈ rows, i < s.2.2.2.1 ∧ s.2.2.2.1 < e) :
    ∀ x ∈ (duesR sB l rows : List (Pay nD τ sig)), x.1.1.2 = .tc ∧ i < x.2.1 ∧ x.2.1 < e := by
  intro x hx
  unfold duesR at hx
  rw [List.mem_reverse, List.mem_map] at hx
  obtain ⟨s, hs, rfl⟩ := hx
  exact ⟨rfl, h s hs⟩
theorem shape_between (shape : List Entry) (peer : ℕ → Dev nD → Dev nD) (c : Dev nD) (k i e : ℕ) (h : ∀ s ∈ shape.drop k, i < s.2.2.2.1 ∧ s.2.2.2.1 < e) :
    ∀ s ∈ (rowsS shape peer c).drop k, i < s.2.2.2.1 ∧ s.2.2.2.1 < e := by
  intro s hs
  unfold rowsS at hs
  rw [← List.map_drop, List.mem_map] at hs
  obtain ⟨x, hx, rfl⟩ := hs
  exact h x hx

section Sched
variable (sB : SemLoc sig) (dorm : Fin 1 → List (SemLoc sig)) (shape : List Entry) (peer inv : ℕ → Dev nD → Dev nD)
  (hsem : ((List.finRange 1).all fun j => (dorm j).all fun sm => decide (semKeyL dorm sm = j ∧ sm ≠ sB)) = true)
  (hrow : ((List.finRange nD).all fun c => (List.finRange 1).all fun j => (toksR ((fun d (_ : Fin 1) => rowsS shape peer d) c j)).all fun r =>
    decide ((r.2.1 = 0 ∧ r.2.2.1 = j.val) ∨ (0 < r.2.1 ∧ r.2.1 ≤ (dorm j).length))) = true)
  (nR : SemLoc sig → ℕ) (hok : rowsOk sB dorm (fun d (_ : Fin 1) => rowsS shape peer d) nR = true) (pay : GSem nD τ sig → ℕ → Dev nD × ℕ → sProp (MT nD τ sig ℕ (Elt F) ℕ U ℕ))
  (hinv : ∀ s ∈ shape, ∀ c, inv s.1 (peer s.1 c) = c ∧ peer s.1 (inv s.1 c) = c)

section
include hsem hrow
theorem pays_shape (c : Dev nD) {i : ℕ} {s : Entry} (h : shape[i]? = some s) {sm : SemLoc sig} (hsm : (sB :: dorm 0).getD s.2.1 sB = sm) :
    (c, i) ∈ (Sched.ofRows sB dorm (fun d (_ : Fin 1) => rowsS shape peer d) nR hok pay).duties ((peer s.1 c : Thread nD τ), sm) s.2.2.1
      ∧ (Sched.ofRows sB dorm (fun d (_ : Fin 1) => rowsS shape peer d) nR hok pay).amount ((peer s.1 c : Thread nD τ), sm) s.2.2.1 (c, i) = s.2.2.2.2 := by
  subst hsm
  exact Sched.row_pays sB dorm hsem hrow nR hok pay (j := 0) (x := ((peer s.1 c).val, s.2)) (rowsS_at shape peer c h) (cellN_val _ _ _ _) rfl
end

section
include hinv
theorem wait_shape (c : Dev nD) (sm : SemLoc sig) (r : ℕ) (hj : launchN sB dorm ((c.tc : Thread nD τ), sm) r = 0) {lit : List (Entry × ℕ)} (h : paying sB (dorm 0) shape sm r = lit) :
    (Sched.ofRows sB dorm (fun d (_ : Fin 1) => rowsS shape peer d) nR hok pay).expect ((c : Thread nD τ), sm) r = (lit.map fun x => x.1.2.2.2.2).sum
      ∧ ∀ f : Dev nD × ℕ → sProp 𝕄, bigSep ((Sched.ofRows sB dorm (fun d (_ : Fin 1) => rowsS shape peer d) nR hok pay).duties ((c : Thread nD τ), sm) r \ ∅) f
        = bigSepL (lit.map fun x => (inv x.1.1 c, x.2)) f := by
  have hin := incoming_perm_of_shape (rows := fun d (_ : Fin 1) => rowsS shape peer d) (j := 0) (fun _ => rfl) hinv c
  have hf : forCell sB dorm 0 sm r (insS shape inv c) = lit.map fun x => (inv x.1.1 c, x.2, (c.val, x.1.2)) := by
    rw [← h]
    unfold forCell insS paying
    rw [List.filter_map]
    rfl
  have hw := Sched.wait_of sB dorm nR hok pay c sm r hj hin
  rw [hf, List.map_map, List.map_map] at hw
  exact hw
end
end Sched

end Cert.Proof.RunKernelIdeal
-- ==== Proof.RunKernelIdeal.RingTable.lean ====
/-
  THE RING'S TABLE. What each device pays in the ring kernel, in program order, and what each payment carries: the barrier's two units and the credits carry a half of a ring buffer that may be written,
  the copies' receive units carry the half with the weights in it, the send units carry the share of the source that was lent to the copy.
-/
module

public import proofs.«01_k».proof.Proof.RunKernelIdeal.Shape

@[expose] public section

set_option synthInstance.maxSize 4096

noncomputable section

namespace Cert.Proof.RunKernelIdeal

open Idealize.ShloMosaic Idealize.SL Idealize.SL.RA Idealize.SL.BI Idealize.SL.BI.BIBase Idealize.SL.ProofMode Idealize.SL.Sem
open Idealize.ShloMosaic.Rounds (URounds Schedule dutyTok openTok reached atPos)
open Idealize.ShloMosaic.TcCoe Idealize.ShloMosaic.TalkSites Idealize.ShloMosaic.SiteBlocks
open scoped Idealize.SL.BI
open Cert.KernelIdeal Cert.KernelIdeal.Gen

/-- The units of one copy of a half. -/
def N1 : ℕ := (halfM false 0).view.amount (.dma (recvSem false 0))
theorem N1_recv : ∀ (d : Bool) (b b' : Fin 2), (halfM d b).view.amount (.dma (recvSem d b')) = N1 := by
  intro d b b'; cases d <;> rfl
theorem N1_wait_recv : ∀ (d : Bool) (b b' : Fin 2), (halfM d b).view.dmaCredit = N1 := by
  intro d b b'; cases d <;> rfl

/-! ## Cells -/

/-- The ring's barrier counter. -/
abbrev rB : SemLoc sig := .reg 2
/-- The counters of direction d. -/
abbrev sC (d : Bool) (b : Fin 2) : SemLoc sig := .dma (sendSem d b)
abbrev rC (d : Bool) (b : Fin 2) : SemLoc sig := .dma (recvSem d b)
abbrev cC (d : Bool) : SemLoc sig := .reg (credSem d)
/-- The counters that belong to the ring alone, as numbers 1 to 10. -/
def rDorm (_ : Fin 1) : List (SemLoc sig) :=
  [sC false 0, sC false 1, rC false 0, rC false 1, sC true 0, sC true 1, rC true 0, rC true 1, cC false, cC true]

/-- The device to which direction d sends. -/
def dst : Bool → Dev nD → Dev nD
  | false => ahead 1
  | true => behind 1
theorem dst_dst : ∀ (d : Bool) (c : Dev nD), dst d (dst (!d) c) = c := by decide +kernel
theorem dst_dst' : ∀ (d : Bool) (c : Dev nD), dst (!d) (dst d c) = c := by decide +kernel
/-- The peers by number. -/
def rPeer : ℕ → Dev nD → Dev nD
  | 0 => dst true
  | 1 => dst false
  | _ => id
def rInv : ℕ → Dev nD → Dev nD
  | 0 => dst false
  | 1 => dst true
  | _ => id
/-- The number of the peer to which direction d sends, and of that from which it receives. -/
def pTo : Bool → ℕ
  | false => 1
  | true => 0
theorem rPeer_to (d : Bool) : rPeer (pTo d) = dst d := by cases d <;> rfl
theorem rPeer_from (d : Bool) : rPeer (pTo (!d)) = dst (!d) := by cases d <;> rfl
theorem rInv_to (d : Bool) : rInv (pTo d) = dst (!d) := by cases d <;> rfl
theorem rInv_from (d : Bool) : rInv (pTo (!d)) = dst d := by cases d <;> rfl

/-! ## The table -/

/-- The payments of hop h: two copies received by the neighbours and, but for the last hop, two credits. -/
def hopRows (h : ℕ) : List Entry :=
  [(1, 3 + (h + 1) % 2, h / 2, 4 + 2 * h, N1), (0, 7 + (h + 1) % 2, h / 2, 4 + 2 * h, N1)] ++ if h < 6 then [(0, 9, h, 5 + 2 * h, 1), (1, 10, h, 5 + 2 * h, 1)] else []
/-- The payments of hop h to the device itself. -/
def sendRows (h : ℕ) : List Entry := [(2, 1 + h % 2, h / 2, 0, N1), (2, 5 + h % 2, h / 2, 0, N1)]
/-- What is owed to other devices. -/
def rDue : List Entry :=
  [(0, 0, 0, 3, 1), (1, 0, 0, 3, 1)] ++ hopRows 0 ++ hopRows 1 ++ hopRows 2 ++ hopRows 3 ++ hopRows 4 ++ hopRows 5 ++ hopRows 6
def rShape : List Entry := rDue ++ sendRows 0 ++ sendRows 1 ++ sendRows 2 ++ sendRows 3 ++ sendRows 4 ++ sendRows 5 ++ sendRows 6
def rRows (c : Dev nD) (_ : Fin 1) : List Row := rowsS rShape rPeer c
/-- The number of rounds of each counter. -/
def rRounds (sm : SemLoc sig) : ℕ :=
  if sm = rB then 1 else if sm = cC false ∨ sm = cC true then 6 else if sm = sC false 0 ∨ sm = sC true 0 ∨ sm = rC false 1 ∨ sm = rC true 1 then 4 else 3

theorem rHsem : ((List.finRange 1).all fun j => (rDorm j).all fun sm => decide (semKeyL rDorm sm = j ∧ sm ≠ rB)) = true := by decide +kernel
theorem rHrow : ((List.finRange nD).all fun c => (List.finRange 1).all fun j => (toksR (rRows c j)).all fun r =>
    decide ((r.2.1 = 0 ∧ r.2.2.1 = j.val) ∨ (0 < r.2.1 ∧ r.2.1 ≤ (rDorm j).length))) = true := by decide +kernel
theorem rHok : rowsOk rB rDorm rRows rRounds = true := by decide +kernel
theorem rHinv : ∀ s ∈ rShape, ∀ c, rInv s.1 (rPeer s.1 c) = c ∧ rPeer s.1 (rInv s.1 c) = c := by decide +kernel
theorem rHinvDue : ∀ s ∈ rDue, ∀ c, rInv s.1 (rPeer s.1 c) = c ∧ rPeer s.1 (rInv s.1 c) = c := by decide +kernel
theorem rDue_le : ∀ s ∈ rDue, 0 < s.2.2.2.1 ∧ s.2.2.2.1 < 20 := by decide +kernel

/-- The numbers of the payments of hop h in direction d. -/
abbrev iR (d : Bool) (h : ℕ) : ℕ := 2 + 4 * h + d.toNat
abbrev iC (d : Bool) (h : ℕ) : ℕ := 4 + 4 * h + d.toNat
abbrev iS (d : Bool) (h : ℕ) : ℕ := 28 + 2 * h + d.toNat

theorem at_bar (d : Bool) : rShape[(!d).toNat]? = some (pTo d, 0, 0, 3, 1) ∧ rDue[(!d).toNat]? = some (pTo d, 0, 0, 3, 1) := by cases d <;> exact ⟨rfl, rfl⟩
theorem at_recv (d : Bool) {h : ℕ} (hh : h < 7) :
    rShape[iR d h]? = some (pTo d, 3 + 4 * d.toNat + (h + 1) % 2, h / 2, 4 + 2 * h, N1) ∧ rDue[iR d h]? = some (pTo d, 3 + 4 * d.toNat + (h + 1) % 2, h / 2, 4 + 2 * h, N1) := by
  interval_cases h <;> cases d <;> exact ⟨rfl, rfl⟩
theorem at_cred (d : Bool) {h : ℕ} (hh : h < 6) :
    rShape[iC d h]? = some (pTo (!d), 9 + d.toNat, h, 5 + 2 * h, 1) ∧ rDue[iC d h]? = some (pTo (!d), 9 + d.toNat, h, 5 + 2 * h, 1) := by
  interval_cases h <;> cases d <;> exact ⟨rfl, rfl⟩
theorem at_send (d : Bool) {h : ℕ} (hh : h < 7) : rShape[iS d h]? = some (2, 1 + 4 * d.toNat + h % 2, h / 2, 0, N1) := by
  interval_cases h <;> cases d <;> rfl

theorem no_recv (d : Bool) {h : ℕ} (hh : h < 7) : (rB :: rDorm 0).getD (3 + 4 * d.toNat + (h + 1) % 2) rB = rC d (cur (h + 1)) := by
  interval_cases h <;> cases d <;> rfl
theorem no_cred (d : Bool) : (rB :: rDorm 0).getD (9 + d.toNat) rB = cC d := by cases d <;> rfl
theorem no_send (d : Bool) {h : ℕ} (hh : h < 7) : (rB :: rDorm 0).getD (1 + 4 * d.toNat + h % 2) rB = sC d (cur h) := by
  interval_cases h <;> cases d <;> rfl
theorem no_recv_ne (d : Bool) (b : Fin 2) : rC d b ∈ rDorm 0 := by cases d <;> (fin_cases b <;> decide +kernel)
theorem no_send_ne (d : Bool) (b : Fin 2) : sC d b ∈ rDorm 0 := by cases d <;> (fin_cases b <;> decide +kernel)
theorem no_cred_ne (d : Bool) : cC d ∈ rDorm 0 := by cases d <;> decide +kernel

/-- One direction's own payment into a counter is the only one of its round. -/
theorem paying_bar : paying rB (rDorm 0) rShape rB 0 = [((0, 0, 0, 3, 1), 0), ((1, 0, 0, 3, 1), 1)] := by rfl
theorem paying_recv (d : Bool) {h : ℕ} (hh : h < 7) :
    paying rB (rDorm 0) rShape (rC d (cur (h + 1))) (h / 2) = [((pTo d, 3 + 4 * d.toNat + (h + 1) % 2, h / 2, 4 + 2 * h, N1), iR d h)] := by
  interval_cases h <;> cases d <;> rfl
theorem paying_cred (d : Bool) {h : ℕ} (hh : h < 6) : paying rB (rDorm 0) rShape (cC d) h = [((pTo (!d), 9 + d.toNat, h, 5 + 2 * h, 1), iC d h)] := by
  interval_cases h <;> cases d <;> rfl
theorem paying_send (d : Bool) {h : ℕ} (hh : h < 7) :
    paying rB (rDorm 0) rShape (sC d (cur h)) (h / 2) = [((2, 1 + 4 * d.toNat + h % 2, h / 2, 0, N1), iS d h)] := by
  interval_cases h <;> cases d <;> rfl

/-! ## What the payments carry -/

variable {F : FTy → Type} [FloatOps F] {U : Type} [URA U]
local notation "𝕄" => MT nD τ sig ℕ (Elt F) ℕ U ℕ

/-- The device whose weights device c holds in hop h, in direction d. -/
def orig : Bool → Dev nD → ℕ → Dev nD
  | false, c, h => behind h c
  | true, c, h => ahead h c
theorem orig_zero (d : Bool) (c : Dev nD) : orig d c 0 = c := by revert d c; decide +kernel
theorem orig_next (d : Bool) (c : Dev nD) {h : ℕ} (hh : h < 7) : orig d (dst (!d) c) h = orig d c (h + 1) := by
  interval_cases h <;> revert d c <;> decide +kernel

/-- A pair of weight matrices for each device and direction. -/
abbrev Weights (F : FTy → Type) [FloatOps F] := Bool → Dev nD → S1024x1024.Idx → Elt F .bf16

section Pay
variable (E : Recs F U) [E.LandsIn (upEmb : UEmb _ (MT nD τ sig ℕ (Elt F) ℕ U ℕ))] (Wt : Weights F)

/-- Half b of device c's buffer in direction d, at unknown contents. -/
def anyHalf (d : Bool) (c : Dev nD) (b : Fin 2) : sProp 𝕄 := iprop(∃ X, owns (c : Thread nD τ) (halfM d b) fullShare X)
/-- The half that device c reads in hop h, at the contents it then has. -/
def heldHalf (d : Bool) (c : Dev nD) (h : ℕ) (q : PosShare TreeShare) : sProp 𝕄 := owns (c : Thread nD τ) (halfM d (cur h)) q (Wt d (orig d c h))
/-- Device p lets its neighbour write half b, whose receive counter is in round r. -/
def mayWrite (d : Bool) (p : Dev nD) (b : Fin 2) (r : ℕ) : sProp 𝕄 := iprop(anyHalf d p b ∗ reached E ((p : Thread nD τ), rC d b) r)
/-- Device p's copy of hop h has come to its neighbour. -/
def came (d : Bool) (p : Dev nD) (h : ℕ) : sProp 𝕄 :=
  iprop(owns (dst d p : Thread nD τ) (halfM d (cur (h + 1))) fullShare (Wt d (orig d p h)) ∗ reached E ((p : Thread nD τ), cC d) h)

instance (d : Bool) (c : Dev nD) (b : Fin 2) : Storable (upEmb : UEmb _ 𝕄) (anyHalf d c b : sProp 𝕄) := by unfold anyHalf; infer_instance
instance (d : Bool) (c : Dev nD) (h : ℕ) (q : PosShare TreeShare) : Storable (upEmb : UEmb _ 𝕄) (heldHalf Wt d c h q : sProp 𝕄) := by unfold heldHalf; infer_instance
instance (d : Bool) (p : Dev nD) (b : Fin 2) (r : ℕ) : Storable (upEmb : UEmb _ 𝕄) (mayWrite E d p b r) := by unfold mayWrite; infer_instance
instance (d : Bool) (p : Dev nD) (h : ℕ) : Storable (upEmb : UEmb _ 𝕄) (came E Wt d p h) := by unfold came; infer_instance

/-- What payment number i of device p carries. -/
def rPay (p : Dev nD) (i : ℕ) : sProp 𝕄 :=
  if i < 2 then mayWrite E (decide (i = 1)) p 1 0
  else if i < 28 then
    if (i - 2) % 4 < 2 then came E Wt (decide ((i - 2) % 4 = 1)) p ((i - 2) / 4)
    else mayWrite E (decide ((i - 2) % 4 = 3)) p (cur ((i - 2) / 4)) (((i - 2) / 4 + 1) / 2)
  else heldHalf Wt (decide ((i - 28) % 2 = 1)) p ((i - 28) / 2) fullShare.left
instance (p : Dev nD) (i : ℕ) : Storable (upEmb : UEmb _ 𝕄) (rPay E Wt p i) := by
  unfold rPay
  split
  · infer_instance
  · split
    · split <;> infer_instance
    · infer_instance
/-- It by the cell, the round and the payment's name; only the name matters. -/
def rPayload (_ : GSem nD τ sig) (_ : ℕ) (x : Dev nD × ℕ) : sProp 𝕄 := rPay E Wt x.1 x.2
instance (g : GSem nD τ sig) (r : ℕ) (x : Dev nD × ℕ) : Storable (upEmb : UEmb _ 𝕄) (rPayload E Wt g r x) := by unfold rPayload; infer_instance

theorem rPay_bar (d : Bool) (p : Dev nD) : rPay E Wt p d.toNat = mayWrite E d p 1 0 := by cases d <;> rfl
theorem rPay_recv (d : Bool) (p : Dev nD) {h : ℕ} (hh : h < 7) : rPay E Wt p (iR d h) = came E Wt d p h := by
  interval_cases h <;> cases d <;> rfl
theorem rPay_cred (d : Bool) (p : Dev nD) {h : ℕ} (hh : h < 6) : rPay E Wt p (iC d h) = mayWrite E d p (cur h) ((h + 1) / 2) := by
  interval_cases h <;> cases d <;> rfl
theorem rPay_send (d : Bool) (p : Dev nD) {h : ℕ} (hh : h < 7) : rPay E Wt p (iS d h) = heldHalf Wt d p h fullShare.left := by
  interval_cases h <;> cases d <;> rfl

/-- The ring's schedule and its family of cells. -/
abbrev rRd : Schedule (GSem nD τ sig) (Dev nD × ℕ) 𝕄 := Sched.ofRows rB rDorm rRows rRounds rHok (rPayload E Wt)
abbrev rFam : Fam nD τ sig (Dev nD × ℕ) 1 := Fam.ofRows rB rDorm rRows rHsem rHrow

/-! ## The payer's and the owner's facts -/

theorem pays_bar (d : Bool) (c : Dev nD) : (c, (!d).toNat) ∈ (rRd E Wt).duties ((dst d c : Thread nD τ), rB) 0 ∧ (rRd E Wt).amount ((dst d c : Thread nD τ), rB) 0 (c, (!d).toNat) = 1 := by
  have h := pays_shape rB rDorm rShape rPeer rHsem rHrow rRounds rHok (rPayload E Wt) c (at_bar d).1 (sm := rB) rfl
  rwa [rPeer_to] at h
theorem pays_recv (d : Bool) (c : Dev nD) {h : ℕ} (hh : h < 7) :
    (c, iR d h) ∈ (rRd E Wt).duties ((dst d c : Thread nD τ), rC d (cur (h + 1))) (h / 2) ∧ (rRd E Wt).amount ((dst d c : Thread nD τ), rC d (cur (h + 1))) (h / 2) (c, iR d h) = N1 := by
  have h' := pays_shape rB rDorm rShape rPeer rHsem rHrow rRounds rHok (rPayload E Wt) c (at_recv d hh).1 (no_recv d hh)
  rwa [rPeer_to] at h'
theorem pays_cred (d : Bool) (c : Dev nD) {h : ℕ} (hh : h < 6) :
    (c, iC d h) ∈ (rRd E Wt).duties ((dst (!d) c : Thread nD τ), cC d) h ∧ (rRd E Wt).amount ((dst (!d) c : Thread nD τ), cC d) h (c, iC d h) = 1 := by
  have h' := pays_shape rB rDorm rShape rPeer rHsem rHrow rRounds rHok (rPayload E Wt) c (at_cred d hh).1 (no_cred d)
  rwa [rPeer_from] at h'
theorem pays_send (d : Bool) (c : Dev nD) {h : ℕ} (hh : h < 7) :
    (c, iS d h) ∈ (rRd E Wt).duties ((c : Thread nD τ), sC d (cur h)) (h / 2) ∧ (rRd E Wt).amount ((c : Thread nD τ), sC d (cur h)) (h / 2) (c, iS d h) = N1 :=
  pays_shape rB rDorm rShape rPeer rHsem rHrow rRounds rHok (rPayload E Wt) c (at_send d hh) (no_send d hh)

theorem lj_dorm (c : Dev nD) (r : ℕ) {sm : SemLoc sig} (h : sm ∈ rDorm 0) : launchN rB rDorm ((c.tc : Thread nD τ), sm) r = 0 := launchN_dorm rB rDorm rHsem h _ r

/-- The ring's payload at a wait. -/
abbrev rGot (c : Dev nD) (sm : SemLoc sig) (r : ℕ) : sProp 𝕄 :=
  bigSep ((rRd E Wt).duties ((c : Thread nD τ), sm) r \ ∅) fun d => (rRd E Wt).payload ((c : Thread nD τ), sm) r d

theorem wait_bar (c : Dev nD) : (rRd E Wt).expect ((c : Thread nD τ), rB) 0 = 2 ∧ rGot E Wt c rB 0 = iprop(mayWrite E false (dst false c) 1 0 ∗ mayWrite E true (dst true c) 1 0) := by
  have h := wait_shape rB rDorm rShape rPeer rInv rRounds rHok (rPayload E Wt) rHinv c rB 0 (launchN_bar rB rDorm _ (by decide)) paying_bar
  exact ⟨h.1, h.2 _⟩
theorem wait_recv (d : Bool) (c : Dev nD) {h : ℕ} (hh : h < 7) :
    (rRd E Wt).expect ((c : Thread nD τ), rC d (cur (h + 1))) (h / 2) = N1
      ∧ rGot E Wt c (rC d (cur (h + 1))) (h / 2) = iprop(heldHalf Wt d c (h + 1) fullShare ∗ reached E ((dst (!d) c : Thread nD τ), cC d) h) := by
  have h' := wait_shape rB rDorm rShape rPeer rInv rRounds rHok (rPayload E Wt) rHinv c _ (h / 2) (lj_dorm c _ (no_recv_ne d _)) (paying_recv d hh)
  have e := h'.1
  simp only [List.map_cons, List.map_nil, List.sum_cons, List.sum_nil, Nat.add_zero] at e
  refine ⟨e, (h'.2 _).trans ?_⟩
  show rPay E Wt (rInv (pTo d) c) (iR d h) = _
  rw [rPay_recv E Wt d _ hh, rInv_to]
  unfold came heldHalf
  rw [dst_dst, orig_next d c hh]
theorem wait_cred (d : Bool) (c : Dev nD) {h : ℕ} (hh : h < 6) :
    (rRd E Wt).expect ((c : Thread nD τ), cC d) h = 1 ∧ rGot E Wt c (cC d) h = mayWrite E d (dst d c) (cur h) ((h + 1) / 2) := by
  have h' := wait_shape rB rDorm rShape rPeer rInv rRounds rHok (rPayload E Wt) rHinv c _ h (lj_dorm c _ (no_cred_ne d)) (paying_cred d hh)
  refine ⟨h'.1, (h'.2 _).trans ?_⟩
  show rPay E Wt (rInv (pTo (!d)) c) (iC d h) = _
  rw [rPay_cred E Wt d _ hh, rInv_from]
theorem wait_send (d : Bool) (c : Dev nD) {h : ℕ} (hh : h < 7) :
    (rRd E Wt).expect ((c : Thread nD τ), sC d (cur h)) (h / 2) = N1 ∧ rGot E Wt c (sC d (cur h)) (h / 2) = heldHalf Wt d c h fullShare.left := by
  have h' := wait_shape rB rDorm rShape rPeer rInv rRounds rHok (rPayload E Wt) rHinv c _ (h / 2) (lj_dorm c _ (no_send_ne d _)) (paying_send d hh)
  have e := h'.1
  simp only [List.map_cons, List.map_nil, List.sum_cons, List.sum_nil, Nat.add_zero] at e
  refine ⟨e, (h'.2 _).trans ?_⟩
  show rPay E Wt c (iS d h) = _
  rw [rPay_send E Wt d _ hh]
end Pay

/-! ## What is owed -/

/-- What device c owes before payment number k. -/
def rOwed (c : Dev nD) (k : ℕ) : CellTallies nD τ sig ℕ := addL 0 (duesR rB (rDorm 0) ((rowsS rDue rPeer c).drop k))
theorem owed_bar (d : Bool) (c : Dev nD) : rOwed c (!d).toNat = rOwed c ((!d).toNat + 1) + tallyAt ((dst d c : Thread nD τ), rB) 3 1 := by
  have h := dues_step 0 rB (rDorm 0) rDue rPeer c (at_bar d).2
  rwa [rPeer_to] at h
theorem owed_recv (d : Bool) (c : Dev nD) {h : ℕ} (hh : h < 7) :
    rOwed c (iR d h) = rOwed c (iR d h + 1) + tallyAt ((dst d c : Thread nD τ), rC d (cur (h + 1))) (4 + 2 * h) N1 := by
  have h' := dues_step 0 rB (rDorm 0) rDue rPeer c (at_recv d hh).2
  dsimp only at h'
  rwa [rPeer_to, no_recv d hh] at h'
theorem owed_cred (d : Bool) (c : Dev nD) {h : ℕ} (hh : h < 6) :
    rOwed c (iC d h) = rOwed c (iC d h + 1) + tallyAt ((dst (!d) c : Thread nD τ), cC d) (5 + 2 * h) 1 := by
  have h' := dues_step 0 rB (rDorm 0) rDue rPeer c (at_cred d hh).2
  dsimp only at h'
  rwa [rPeer_from, no_cred d] at h'
theorem owed_end (c : Dev nD) : rOwed c 28 = 0 := rfl

/-- A wait at an index below all that is still owed. -/
theorem rMay (c : Dev nD) (sm : SemLoc sig) (k i : ℕ) (h : ∀ s ∈ rDue.drop k, i < s.2.2.2.1 ∧ s.2.2.2.1 < 20) (hi : i < 20) : (levAts (L 20) lv : sProp 𝕄) ⊢ MayWait (c : Thread nD τ) sm i (rOwed c k) :=
  mayWait_addL hi (le_refl 20) (above_zero 20 20) c sm _ (dues_between rB (rDorm 0) _ i 20 (shape_between rDue rPeer c k i 20 h))
theorem left_cred {h : ℕ} (hh : h < 6) : ∀ s ∈ rDue.drop (2 + 4 * (h + 1)), 5 + 2 * h < s.2.2.2.1 ∧ s.2.2.2.1 < 20 := by
  interval_cases h <;> decide +kernel
theorem left_recv {h : ℕ} (hh : h < 7) : ∀ s ∈ rDue.drop (4 + 4 * h), 4 + 2 * h < s.2.2.2.1 ∧ s.2.2.2.1 < 20 := by
  interval_cases h <;> decide +kernel
theorem left_bar : ∀ s ∈ rDue.drop 2, 3 < s.2.2.2.1 ∧ s.2.2.2.1 < 20 := by decide +kernel

end Cert.Proof.RunKernelIdeal
-- ==== Proof.RunKernelIdeal.RingSteps.lean ====
/-
  THE RING'S STEPS, one at a time, each in a direction d at a hop h of a device c: a barrier signal, a credit taken, a copy started, the two waits of a copy, a credit given.
-/
module

public import proofs.«01_k».proof.Proof.RunKernelIdeal.RingTable

@[expose] public section

set_option synthInstance.maxSize 4096

noncomputable section

namespace Cert.Proof.RunKernelIdeal

open Idealize.ShloMosaic Idealize.SL Idealize.SL.RA Idealize.SL.BI Idealize.SL.BI.BIBase Idealize.SL.BI.Laws Idealize.SL.ProofMode Idealize.SL.Sem
open Idealize.ShloMosaic.Rounds (URounds Schedule dutyTok openTok reached atPos cellInv)
open Idealize.ShloMosaic.TcCoe Idealize.ShloMosaic.TalkSites Idealize.ShloMosaic.SiteBlocks
open scoped Idealize.SL.BI
open Cert.KernelIdeal Cert.KernelIdeal.Gen

abbrev 𝒱₀ : Variants := Variants.none

variable {F : FTy → Type} [FloatOps F] {U : Type} [URA U]
local notation "𝕄" => MT nD τ sig ℕ (Elt F) ℕ U ℕ

/-- A program run on device c's TensorCore, with what holds at its end. -/
abbrev wpR {α : Type} (c : Dev nD) (p : Prg F α) (Q : α → sProp 𝕄) : sProp 𝕄 := wp frame (wpE (defs₀ (F := F)) 𝒱₀ (c : Thread nD τ) none) Set.univ p Q
/-- What device c owes, whatever it has waited for. -/
def Owes (c : Dev nD) (O : CellTallies nD τ sig ℕ) : sProp 𝕄 := iprop(∃ W, owes (c : Thread nD τ) O W)

theorem two_toInt : (2#32 : BitVec 32).toInt = ((2 : ℕ) : ℤ) := rfl
theorem seven_toInt : (7#32 : BitVec 32).toInt = ((7 : ℕ) : ℤ) := rfl

section Steps
variable (E : Recs F U) [E.LandsIn (upEmb : UEmb _ (MT nD τ sig ℕ (Elt F) ℕ U ℕ))] (Wt : Weights F) (κ : GSem nD τ sig → ℕ)

/-- The ring's invariants, at the names κ. -/
abbrev rI : sProp (MT nD τ sig ℕ (Elt F) ℕ U ℕ) := rFam.cellInvs E (rRd E Wt) κ
theorem rI_bar (c : Dev nD) : rI E Wt κ ⊢ cellInv E (rRd E Wt) (κ ((c : Thread nD τ), rB)) ((c : Thread nD τ), rB) := Fam.cellInvs_bar _ E (rRd E Wt) κ c
theorem rI_dorm (c : Dev nD) {sm : SemLoc sig} (h : sm ∈ rDorm 0) : rI E Wt κ ⊢ cellInv E (rRd E Wt) (κ ((c : Thread nD τ), sm)) ((c : Thread nD τ), sm) :=
  Fam.cellInvs_dorm _ E (rRd E Wt) κ c (j := 0) (List.mem_toFinset.mpr h)

/-- What a payment carries, put into the schedule. -/
theorem putPay (g : GSem nD τ sig) (r : ℕ) (c : Dev nD) (i : ℕ) {P : sProp 𝕄} (h : rPay E Wt c i = P) : P ⊢ (rRd E Wt).payload g r (c, i) := Entails.of_eq h.symm

theorem step_bar (d : Bool) (c : Dev nD) {e : Dev nD} (he : e = dst d c) {Q : PUnit → sProp 𝕄} :
    iprop(rI E Wt κ ∗ Owes c (rOwed c (!d).toNat) ∗ dutyTok E ((dst d c : Thread nD τ), rB) 0 (c, (!d).toNat) ∗ reached E ((dst d c : Thread nD τ), rB) 0
        ∗ anyHalf (!d) c 1 ∗ reached E ((c : Thread nD τ), rC (!d) 1) 0)
      ⊢ iprop((Owes c (rOwed c ((!d).toNat + 1)) -∗ Q ⟨⟩) -∗ wpR c (semSignalWord e (2 : Sem sig) 1#32) Q) := by
  subst he
  unfold Owes semSignalWord
  rw [one_toInt]
  iintro ⟨#HI, ⟨%W, HO⟩, Ht, #Hr, Hh, #Hr'⟩ Hk
  iapply (Rounds.wp_signal 𝒱₀ E (rRd E Wt) (c : Thread nD τ) none (dst := (dst d c : Thread nD τ)) (sem := (2 : Sem sig)) (r := 0) (d := (c, (!d).toNat)) (κ := κ ((dst d c : Thread nD τ), rB))
      (pays_bar E Wt d c).1 (pays_bar E Wt d c).2 3 (rOwed c ((!d).toNat + 1)) (owed_bar d c)) $$ [HO Ht Hh]
  · isplitr; · iapply (rI_bar E Wt κ (dst d c)); iexact HI
    isplitl [HO]; · iexact HO
    isplitl [Ht]; · iexact Ht
    isplitl [Hh]
    · iapply (putPay E Wt _ _ c _ (rPay_bar E Wt (!d) c))
      unfold mayWrite
      isplitl [Hh]; · iexact Hh
      iexact Hr'
    · iexact Hr
  iintro HO
  rw [wp_ret]; imodintro
  iapply Hk
  iexists W; iexact HO

theorem step_give (d : Bool) {h : ℕ} (hh : h < 6) (c : Dev nD) {e : Dev nD} (he : e = dst (!d) c) {Q : PUnit → sProp 𝕄} :
    iprop(rI E Wt κ ∗ Owes c (rOwed c (iC d h)) ∗ dutyTok E ((dst (!d) c : Thread nD τ), cC d) h (c, iC d h) ∗ reached E ((dst (!d) c : Thread nD τ), cC d) h
        ∗ heldHalf Wt d c h fullShare ∗ reached E ((c : Thread nD τ), rC d (cur h)) ((h + 1) / 2))
      ⊢ iprop((Owes c (rOwed c (iC d h + 1)) -∗ Q ⟨⟩) -∗ wpR c (semSignalWord e (credSem d) 1#32) Q) := by
  subst he
  unfold Owes semSignalWord
  rw [one_toInt]
  iintro ⟨#HI, ⟨%W, HO⟩, Ht, #Hr, Hh, #Hr'⟩ Hk
  iapply (Rounds.wp_signal 𝒱₀ E (rRd E Wt) (c : Thread nD τ) none (dst := (dst (!d) c : Thread nD τ)) (sem := credSem d) (r := h) (d := (c, iC d h))
      (κ := κ ((dst (!d) c : Thread nD τ), cC d)) (pays_cred E Wt d c hh).1 (pays_cred E Wt d c hh).2 (5 + 2 * h) (rOwed c (iC d h + 1)) (owed_cred d c hh)) $$ [HO Ht Hh]
  · isplitr; · iapply (rI_dorm E Wt κ (dst (!d) c) (no_cred_ne d)); iexact HI
    isplitl [HO]; · iexact HO
    isplitl [Ht]; · iexact Ht
    isplitl [Hh]
    · iapply (putPay E Wt _ _ c _ (rPay_cred E Wt d c hh))
      unfold mayWrite anyHalf heldHalf
      isplitl [Hh]; · iexists _; iexact Hh
      iexact Hr'
    · iexact Hr
  iintro HO
  rw [wp_ret]; imodintro
  iapply Hk
  iexists W; iexact HO

theorem step_copy (d : Bool) {h : ℕ} (hh : h < 7) (c : Dev nD) {e : Dev nD} (he : e = dst d c) {Q : PUnit → sProp 𝕄} :
    iprop(rI E Wt κ ∗ Owes c (rOwed c (iR d h)) ∗ heldHalf Wt d c h fullShare ∗ mayWrite E d (dst d c) (cur (h + 1)) (h / 2) ∗ reached E ((c : Thread nD τ), cC d) h
        ∗ reached E ((c : Thread nD τ), sC d (cur h)) (h / 2) ∗ dutyTok E ((dst d c : Thread nD τ), rC d (cur (h + 1))) (h / 2) (c, iR d h)
        ∗ dutyTok E ((c : Thread nD τ), sC d (cur h)) (h / 2) (c, iS d h))
      ⊢ iprop((iprop(Owes c (rOwed c (iR d h + 1)) ∗ heldHalf Wt d c h fullShare.right ∗ cred (tallyAt ((c : Thread nD τ), sC d (cur h)) 0 N1)) -∗ Q ⟨⟩)
        -∗ wpR c (startCopy d h e) Q) := by
  subst he
  unfold Owes startCopy heldHalf mayWrite anyHalf
  iintro ⟨#HI, ⟨%W, HO⟩, Hs, ⟨⟨%X, Hd⟩, #Hrd⟩, #Hrc, #Hrs, Htr, Hts⟩ Hk
  ihave Hs2 := (owns_halves (c : Thread nD τ) (halfM d (cur h)) fullShare (Wt d (orig d c h))).1 $$ Hs
  icases Hs2 with ⟨Hl, Hr⟩
  unfold owns
  icases Hl with ⟨%fs, %hfs, Hl⟩
  icases Hd with ⟨%fd, -, Hd⟩
  iapply (Rounds.wp_send_pointsTo_with 𝒱₀ E (rRd E Wt) (c : Thread nD τ) none (c' := (dst d c : Thread nD τ)) (src := halfM d (cur h)) (dst := halfM d (cur (h + 1)))
      (sS := sC d (cur h)) (sem := rC d (cur (h + 1))) (q := fullShare.left) (fs := fs) (fd := fd) (F := reached E ((c : Thread nD τ), cC d) h)
      (r₁ := h / 2) (r₂ := h / 2) (d₁ := (c, iS d h)) (d₂ := (c, iR d h)) (κ₁ := κ ((c : Thread nD τ), sC d (cur h))) (κ₂ := κ ((dst d c : Thread nD τ), rC d (cur (h + 1))))
      (pays_send E Wt d c hh).1 (pays_recv E Wt d c hh).1 (4 + 2 * h) 0 N1 (N1_recv d _ _) (pays_send E Wt d c hh).2 (pays_recv E Wt d c hh).2
      (rOwed c (iR d h + 1)) (owed_recv d c hh) (W := W)
      (by
        iintro H
        iapply (putPay E Wt _ _ c _ (rPay_send E Wt d c hh))
        unfold heldHalf owns
        iexists fs; isplitr
        · ipureintro; exact hfs
        · iexact H)
      (by
        iintro ⟨H, #Hr⟩
        iapply (putPay E Wt _ _ c _ (rPay_recv E Wt d c hh))
        unfold came owns
        isplitl [H]
        · iexists _; isplitr [H]
          · ipureintro; exact (View.read_write_univ fd _).trans hfs
          · iexact H
        · iexact Hr)) $$ [Hl Hd HO Hts Htr]
  · isplitr; · iapply (rI_dorm E Wt κ c (no_send_ne d _)); iexact HI
    isplitr; · iapply (rI_dorm E Wt κ (dst d c) (no_recv_ne d _)); iexact HI
    isplitl [Hl]; · iexact Hl
    isplitl [Hd]
    · isplitl [Hd]; · iexact Hd
      iexact Hrc
    isplitl [HO]; · iexact HO
    isplitl [Hts]; · iexact Hts
    isplitr; · iexact Hrs
    isplitl [Htr]; · iexact Htr
    iexact Hrd
  iintro ⟨Hc, HO⟩
  rw [wp_ret]; imodintro
  iapply Hk
  isplitl [HO]; · iexists W; iexact HO
  isplitl [Hr]; · iexact Hr
  iexact Hc

theorem step_waitBar (c : Dev nD) {Q : PUnit → sProp 𝕄} :
    iprop(rI E Wt κ ∗ levAts (L 20) lv ∗ Owes c (rOwed c 2) ∗ atPos E ((c : Thread nD τ), rB) 0 ∅ 0 ∗ cred (tallyAt ((c : Thread nD τ), rB) 3 2))
      ⊢ iprop((iprop(Owes c (rOwed c 2) ∗ atPos E ((c : Thread nD τ), rB) 1 ∅ 0 ∗ mayWrite E false (dst false c) 1 0 ∗ mayWrite E true (dst true c) 1 0) -∗ Q ⟨⟩)
        -∗ wpR c (semWaitWord (2 : Sem sig) 2#32) Q) := by
  unfold Owes semWaitWord
  rw [two_toInt]
  iintro ⟨#HI, #Hlev, ⟨%W, HO⟩, Ha, Hc⟩ Hk
  iapply (Rounds.wp_wait_rest_token 𝒱₀ E (rRd E Wt) (c : Thread nD τ) none (κ := κ ((c : Thread nD τ), rB))
      (wpE_semWait_eq 𝒱₀ (c : Thread nD τ) none Set.univ) (Set.mem_univ _) 3 (O := rOwed c 2) (W := W) (R := 0) (m := 0) (T := ∅)
      ((Nat.zero_add 2).trans (wait_bar E Wt c).1.symm)) $$ [HO Ha Hc]
  · isplitr; · iapply (rI_bar E Wt κ c); iexact HI
    isplitl [Hc]; · iexact Hc
    isplitl [HO]; · iexact HO
    isplitr; · iapply (rMay c rB 2 3 left_bar (by decide)); iexact Hlev
    iexact Ha
  iintro ⟨HO, Ha, -, Hp⟩
  ihave Hp := (Entails.of_eq (wait_bar E Wt c).2) $$ Hp
  rw [wp_ret]; imodintro
  iapply Hk
  isplitl [HO]; · iexists _; iexact HO
  isplitl [Ha]; · iexact Ha
  iexact Hp

theorem step_take (d : Bool) {h : ℕ} (hh : h < 6) (c : Dev nD) {Q : PUnit → sProp 𝕄} :
    iprop(rI E Wt κ ∗ levAts (L 20) lv ∗ Owes c (rOwed c (2 + 4 * (h + 1))) ∗ atPos E ((c : Thread nD τ), cC d) h ∅ 0 ∗ cred (tallyAt ((c : Thread nD τ), cC d) (5 + 2 * h) 1))
      ⊢ iprop((iprop(Owes c (rOwed c (2 + 4 * (h + 1))) ∗ atPos E ((c : Thread nD τ), cC d) (h + 1) ∅ 0 ∗ reached E ((c : Thread nD τ), cC d) (h + 1)
          ∗ mayWrite E d (dst d c) (cur h) ((h + 1) / 2)) -∗ Q ⟨⟩)
        -∗ wpR c (semWaitWord (credSem d) 1#32) Q) := by
  unfold Owes semWaitWord
  rw [one_toInt]
  iintro ⟨#HI, #Hlev, ⟨%W, HO⟩, Ha, Hc⟩ Hk
  iapply (Rounds.wp_wait_rest_token 𝒱₀ E (rRd E Wt) (c : Thread nD τ) none (κ := κ ((c : Thread nD τ), cC d))
      (wpE_semWait_eq 𝒱₀ (c : Thread nD τ) none Set.univ) (Set.mem_univ _) (5 + 2 * h) (O := rOwed c (2 + 4 * (h + 1))) (W := W) (R := h) (m := 0) (T := ∅)
      ((Nat.zero_add 1).trans (wait_cred E Wt d c hh).1.symm)) $$ [HO Ha Hc]
  · isplitr; · iapply (rI_dorm E Wt κ c (no_cred_ne d)); iexact HI
    isplitl [Hc]; · iexact Hc
    isplitl [HO]; · iexact HO
    isplitr; · iapply (rMay c (cC d) (2 + 4 * (h + 1)) (5 + 2 * h) (left_cred hh) (by omega)); iexact Hlev
    iexact Ha
  iintro ⟨HO, Ha, #Hr, Hp⟩
  ihave Hp := (Entails.of_eq (wait_cred E Wt d c hh).2) $$ Hp
  rw [wp_ret]; imodintro
  iapply Hk
  isplitl [HO]; · iexists _; iexact HO
  isplitl [Ha]; · iexact Ha
  isplitr; · iexact Hr
  iexact Hp

theorem step_sent (d : Bool) {h : ℕ} (hh : h < 7) (c : Dev nD) {Q : PUnit → sProp 𝕄} :
    iprop(rI E Wt κ ∗ levAts (L 20) lv ∗ Owes c (rOwed c (4 + 4 * h)) ∗ atPos E ((c : Thread nD τ), sC d (cur h)) (h / 2) ∅ 0 ∗ cred (tallyAt ((c : Thread nD τ), sC d (cur h)) 0 N1)
        ∗ heldHalf Wt d c h fullShare.right)
      ⊢ iprop((iprop(Owes c (rOwed c (4 + 4 * h)) ∗ atPos E ((c : Thread nD τ), sC d (cur h)) (h / 2 + 1) ∅ 0 ∗ reached E ((c : Thread nD τ), sC d (cur h)) (h / 2 + 1)
          ∗ heldHalf Wt d c h fullShare) -∗ Q ⟨⟩)
        -∗ wpR c (waitSent d h) Q) := by
  unfold Owes waitSent
  iintro ⟨#HI, #Hlev, ⟨%W, HO⟩, Ha, Hc, Hr⟩ Hk
  iapply (Rounds.wp_wait_rest_token 𝒱₀ E (rRd E Wt) (c : Thread nD τ) none (κ := κ ((c : Thread nD τ), sC d (cur h)))
      (wpE_waitDma2_eq (src := halfM d (cur (h + 1))) (dst := halfM d (cur h)) 𝒱₀ (c : Thread nD τ) none Set.univ) (Set.mem_univ _) 0
      (O := rOwed c (4 + 4 * h)) (W := W) (R := h / 2) (m := 0) (T := ∅)
      ((Nat.zero_add _).trans ((N1_wait_recv d (cur h) 0).trans (wait_send E Wt d c hh).1.symm))) $$ [HO Ha Hc]
  · isplitr; · iapply (rI_dorm E Wt κ c (no_send_ne d _)); iexact HI
    isplitl [Hc]; · iexact Hc
    isplitl [HO]; · iexact HO
    isplitr; · iapply (rMay c (sC d (cur h)) (4 + 4 * h) 0 (fun s hs => rDue_le s (List.mem_of_mem_drop hs)) (by omega)); iexact Hlev
    iexact Ha
  iintro ⟨HO, Ha, #Hra, Hp⟩
  ihave Hp := (Entails.of_eq (wait_send E Wt d c hh).2) $$ Hp
  rw [wp_ret]; imodintro
  iapply Hk
  isplitl [HO]; · iexists _; iexact HO
  isplitl [Ha]; · iexact Ha
  isplitr; · iexact Hra
  unfold heldHalf
  iapply (owns_halves (c : Thread nD τ) (halfM d (cur h)) fullShare (Wt d (orig d c h))).2
  isplitl [Hp]; · iexact Hp
  iexact Hr

theorem step_come (d : Bool) {h : ℕ} (hh : h < 7) (c : Dev nD) {Q : PUnit → sProp 𝕄} :
    iprop(rI E Wt κ ∗ levAts (L 20) lv ∗ Owes c (rOwed c (4 + 4 * h)) ∗ atPos E ((c : Thread nD τ), rC d (cur (h + 1))) (h / 2) ∅ 0
        ∗ cred (tallyAt ((c : Thread nD τ), rC d (cur (h + 1))) (4 + 2 * h) N1))
      ⊢ iprop((iprop(Owes c (rOwed c (4 + 4 * h)) ∗ atPos E ((c : Thread nD τ), rC d (cur (h + 1))) (h / 2 + 1) ∅ 0 ∗ reached E ((c : Thread nD τ), rC d (cur (h + 1))) (h / 2 + 1)
          ∗ heldHalf Wt d c (h + 1) fullShare ∗ reached E ((dst (!d) c : Thread nD τ), cC d) h) -∗ Q ⟨⟩)
        -∗ wpR c (waitCome d h) Q) := by
  unfold Owes waitCome
  iintro ⟨#HI, #Hlev, ⟨%W, HO⟩, Ha, Hc⟩ Hk
  iapply (Rounds.wp_wait_rest_token 𝒱₀ E (rRd E Wt) (c : Thread nD τ) none (κ := κ ((c : Thread nD τ), rC d (cur (h + 1))))
      (wpE_waitDma2_eq (src := halfM d (cur h)) (dst := halfM d (cur (h + 1))) 𝒱₀ (c : Thread nD τ) none Set.univ) (Set.mem_univ _) (4 + 2 * h)
      (O := rOwed c (4 + 4 * h)) (W := W) (R := h / 2) (m := 0) (T := ∅)
      ((Nat.zero_add _).trans ((N1_wait_recv d (cur (h + 1)) 0).trans (wait_recv E Wt d c hh).1.symm))) $$ [HO Ha Hc]
  · isplitr; · iapply (rI_dorm E Wt κ c (no_recv_ne d _)); iexact HI
    isplitl [Hc]; · iexact Hc
    isplitl [HO]; · iexact HO
    isplitr; · iapply (rMay c (rC d (cur (h + 1))) (4 + 4 * h) (4 + 2 * h) (left_recv hh) (by omega)); iexact Hlev
    iexact Ha
  iintro ⟨HO, Ha, #Hra, Hp⟩
  ihave Hp := (Entails.of_eq (wait_recv E Wt d c hh).2) $$ Hp
  rw [wp_ret]; imodintro
  iapply Hk
  isplitl [HO]; · iexists _; iexact HO
  isplitl [Ha]; · iexact Ha
  isplitr; · iexact Hra
  iexact Hp
end Steps

end Cert.Proof.RunKernelIdeal
-- ==== Proof.RunKernelIdeal.Mem.lean ====
/-
  LOADS AND STORES through memrefs whose contents are named, and the two halves of a ring buffer.
-/
module

public import proofs.«01_k».proof.Proof.RunKernelIdeal.RingSteps
public import Idealize.ShloMosaic.Lib.Pointwise

@[expose] public section

set_option synthInstance.maxSize 4096

noncomputable section

namespace Cert.Proof.RunKernelIdeal

open Idealize.ShloMosaic Idealize.SL Idealize.SL.RA Idealize.SL.BI Idealize.SL.BI.BIBase Idealize.SL.BI.Laws Idealize.SL.ProofMode Idealize.SL.Sem
open Idealize.ShloMosaic.Rounds (URounds Schedule dutyTok openTok reached atPos cellInv)
open Idealize.ShloMosaic.TcCoe Idealize.ShloMosaic.TalkSites Idealize.ShloMosaic.SiteBlocks
open scoped Idealize.SL.BI
open Cert.KernelIdeal Cert.KernelIdeal.Gen

variable {F : FTy → Type} [FloatOps F] {U : Type} [URA U]
local notation "𝕄" => MT nD τ sig ℕ (Elt F) ℕ U ℕ

/-- Sequencing. -/
theorem wpR_bind {α β : Type} (c : Dev nD) (p : Prg F α) (k : α → Prg F β) (Q : β → sProp 𝕄) :
    wpR c (p >>= k) Q = wpR c p (fun a => wpR c (k a) Q) := by
  exact wp_bind _ _ _ p k Q

/-- Reading the own device's number. -/
theorem wpR_dev {β : Type} (c : Dev nD) (k : Dev nD → Prg F β) {Q : β → sProp 𝕄} :
    wpR c (k c) Q ⊢ wpR c ((Prog.lift .deviceId : Prg F (Dev nD)) >>= k) Q := by
  rw [wpR_bind]
  show _ ⊢ wp frame (wpE (defs₀ (F := F)) 𝒱₀ (c : Thread nD τ) none) Set.univ (Prog.op TpuEff.deviceId Prog.ret) (fun a => wpR c (k a) Q)
  rw [wp_deviceId, wp_ret]
  iintro H; imodintro; iexact H

/-- Nothing done. -/
theorem wpR_pure {β : Type} (c : Dev nD) (v : β) (Q : β → sProp 𝕄) : Q v ⊢ wpR c (pure v : Prg F β) Q := by
  show _ ⊢ wp frame (wpE (defs₀ (F := F)) 𝒱₀ (c : Thread nD τ) none) Set.univ (.ret v) Q
  rw [wp_ret]
  iintro H; imodintro; iexact H

/-- An update at the end of a program. -/
theorem wpR_fupd {α : Type} (c : Dev nD) (p : Prg F α) (Q : α → sProp 𝕄) : wpR c p (fun v => iprop(|={Set.univ}=> Q v)) ⊢ wpR c p Q := by
  have h := wpR_bind c p (fun v => (pure v : Prg F α)) Q
  rw [bind_pure] at h
  rw [h]
  have e : (fun a => wpR c (pure a : Prg F α) Q) = fun a => iprop(|={Set.univ}=> Q a) := funext fun a => by
    show wp frame (wpE (defs₀ (F := F)) 𝒱₀ (c : Thread nD τ) none) Set.univ (.ret a) Q = _
    rw [wp_ret]
  rw [e]

/-- A load through a rectangle of a memref. -/
theorem load_rect {cs : CoreSpace} {s : Shape} {e : EltTy} (m : Memref sig .tc cs s e) (c : Dev nD) (q : PosShare TreeShare) (X : s.Idx → Elt F e) (r : Rect s)
    (hl : m.view.LoadsAt r.toLoadRect) {Q : (r.toLoadRect.shape.Idx → Elt F e) → sProp 𝕄} :
    owns (c : Thread nD τ) m q X ⊢ iprop((owns (c : Thread nD τ) m q X -∗ Q (fun x => X (r.emb x))) -∗ wpR c (Prog.lift (.load m r.toLoadRect hl)) Q) := by
  unfold owns Prog.lift
  iintro ⟨%f, %hf, H⟩ Hk
  subst hf
  iapply (wp_load 𝒱₀ (c : Thread nD τ) none Set.univ (S := m.view.set) (m.view.setOn_subset_set _)) $$ H
  iintro H
  rw [wp_ret]
  imodintro
  have e : m.view.readAt (Elt F) r.toLoadRect f = fun x => m.view.read (Elt F) f (r.emb x) := rfl
  rw [e]
  iapply Hk
  iexists f
  isplitr
  · ipureintro; rfl
  iexact H

/-- A store through a rectangle of a memref. -/
theorem store_rect {cs : CoreSpace} {s : Shape} {e : EltTy} (m : Memref sig .tc cs s e) (c : Dev nD) (X Y : s.Idx → Elt F e) (r : Rect s)
    (w : r.shape.Idx → Elt F e) (hx : (m.access r).Stores Finset.univ) (hm)
    (hin : ∀ x, Y (r.emb x) = w x) (hout : ∀ y, y ∉ Finset.map r.emb Finset.univ → Y y = X y) {Q : PUnit → sProp 𝕄} :
    owns (c : Thread nD τ) m fullShare X ⊢ iprop((owns (c : Thread nD τ) m fullShare Y -∗ Q ⟨⟩) -∗ wpR c (Prog.lift (.store m r w Finset.univ hx hm)) Q) := by
  unfold owns Prog.lift
  iintro ⟨%f, %hf, H⟩ Hk
  subst hf
  have hS : (m.access r).setOn Finset.univ ⊆ m.view.set := by
    rw [View.setOn_univ]
    show (m.view.slice r).set ⊆ _
    rw [View.set_slice]
    exact m.view.setOn_subset_set r.set
  iapply (wp_store 𝒱₀ (c : Thread nD τ) none Set.univ (m := m) (r := r) (w := w) (Mk := Finset.univ) (hx := hx) (hm := hm) (S := m.view.set) (f := f) hS) $$ H
  iintro H
  rw [wp_ret]
  imodintro
  iapply Hk
  iexists ((m.access r).write (Elt F) f w Finset.univ)
  isplitr
  · ipureintro
    funext y
    by_cases hy : y ∈ Finset.map r.emb Finset.univ
    · obtain ⟨x, -, rfl⟩ := Finset.mem_map.mp hy
      rw [hin x]
      exact View.read_slice_write_emb (Val := Elt F) r f w (Finset.mem_univ x)
    · rw [hout y hy]
      exact View.read_slice_write_of_not_mem (Val := Elt F) r f w Finset.univ hy
  iexact H

/-- The whole of a shape as a rectangle from the origin: every index stands for itself. -/
theorem unit0_emb {s : Shape} (off : Fin s.rank → ℕ) (h0 : off = fun _ => 0) (inb) (x : s.Idx) :
    (Rect.unit (s := s) off s.size inb).emb x = x := by
  subst h0
  funext a
  apply Fin.ext
  first
    | exact (show 0 + (x a).val * 1 = (x a).val by omega)
    | exact (show 0 + 1 * (x a).val = (x a).val by omega)
    | simp [Rect.unit, Rect.emb]

/-- A load of the whole. -/
theorem load_full {cs : CoreSpace} {s : Shape} {e : EltTy} (m : Memref sig .tc cs s e) (c : Dev nD) (q : PosShare TreeShare) (X : s.Idx → Elt F e)
    (off : Fin s.rank → ℕ) (h0 : off = fun _ => 0) (inb)
    (hl : m.view.LoadsAt (Rect.unit (s := s) off s.size inb).toLoadRect) {Q : (s.Idx → Elt F e) → sProp 𝕄} :
    owns (c : Thread nD τ) m q X ⊢ iprop((owns (c : Thread nD τ) m q X -∗ Q X) -∗ wpR c (Prog.lift (.load m (Rect.unit (s := s) off s.size inb).toLoadRect hl)) Q) := by
  have h := load_rect m c q X (Rect.unit (s := s) off s.size inb) hl (Q := Q)
  have e1 : (fun x => X ((Rect.unit (s := s) off s.size inb).emb x)) = X := funext fun x => congrArg X (unit0_emb off h0 inb x)
  rw [e1] at h
  exact h

/-- A store of the whole. -/
theorem store_full {cs : CoreSpace} {s : Shape} {e : EltTy} (m : Memref sig .tc cs s e) (c : Dev nD) (X w : s.Idx → Elt F e)
    (off : Fin s.rank → ℕ) (h0 : off = fun _ => 0) (inb) (hx : (m.access (Rect.unit (s := s) off s.size inb)).Stores Finset.univ) (hm) {Q : PUnit → sProp 𝕄} :
    owns (c : Thread nD τ) m fullShare X ⊢ iprop((owns (c : Thread nD τ) m fullShare w -∗ Q ⟨⟩) -∗ wpR c (Prog.lift (.store m (Rect.unit (s := s) off s.size inb) w Finset.univ hx hm)) Q) := by
  refine store_rect m c X w (Rect.unit (s := s) off s.size inb) w hx hm (fun x => congrArg w (unit0_emb off h0 inb x)) (fun y hy => ?_)
  exact absurd (Finset.mem_map.mpr ⟨y, Finset.mem_univ _, unit0_emb off h0 inb y⟩) hy

/-- The buffer elements of a half, as the elements the rectangle of the whole scratch reaches. -/
theorem half_set (d : Bool) (b : Fin 2) : (halfM d b).view.set = (ringBuf d).view.setOn (halfR b).set := by
  show (((ringBuf d).view.slice (halfR b)).reshape _ _).set = _
  rw [View.set_reshape, View.set_slice]
  rfl

/-- The stored form of a matrix is it with a leading unit axis. -/
theorem pay2_eq (w : S1024x1024.Idx → Elt F .bf16) : (k0_pay2 (F := F) w : S1x1024x1024.Idx → Elt F .bf16) = shapeCast S1x1024x1024 w shapeCasts_S1024x1024_S1x1024x1024 := by
  unfold k0_pay2
  dsimp only
  rw [shapeCast_self]

/-- Reading a half is reading the rectangle without its leading unit axis. -/
theorem half_read (d : Bool) (b : Fin 2) (f : (ringBuf d).view.ty.Idx → Elt F (ringBuf d).view.ty.elt) :
    ((halfM d b).view.read (Elt F) f : S1024x1024.Idx → Elt F .bf16)
      = shapeCast S1024x1024 (((ringBuf d).view.slice (halfR b)).read (Elt F) f : S1x1024x1024.Idx → Elt F .bf16) shapeCasts_S1x1024x1024_S1024x1024 := rfl

/-- What a load of a half returns: the half with a leading unit axis. -/
theorem read_half (d : Bool) (b : Fin 2) (f : (ringBuf d).view.ty.Idx → Elt F (ringBuf d).view.ty.elt) :
    (ringBuf d).view.readAt (Elt F) (halfR b).toLoadRect f = k0_pay2 ((halfM d b).view.read (Elt F) f) := by
  refine Eq.trans ?_ (pay2_eq _).symm
  rw [half_read, shapeCast_shapeCast]
  rfl

/-- A load of a half, any share. -/
theorem load_half (d : Bool) (b : Fin 2) (c : Dev nD) (q : PosShare TreeShare) (X : S1024x1024.Idx → Elt F .bf16)
    (hl : (ringBuf d).view.LoadsAt (halfR b).toLoadRect) {Q : (S1x1024x1024.Idx → Elt F .bf16) → sProp 𝕄} :
    owns (c : Thread nD τ) (halfM d b) q X ⊢ iprop((owns (c : Thread nD τ) (halfM d b) q X -∗ Q (k0_pay2 X)) -∗ wpR c (Prog.lift (.load (ringBuf d) (halfR b).toLoadRect hl)) Q) := by
  unfold owns Prog.lift
  iintro ⟨%f, %hf, H⟩ Hk
  subst hf
  iapply (wp_load 𝒱₀ (c : Thread nD τ) none Set.univ (m := ringBuf d) (r := (halfR b).toLoadRect) (S := (halfM d b).view.set) (Finset.Subset.trans (Finset.Subset.refl _) (half_set d b).ge)) $$ H
  iintro H
  rw [wp_ret]
  imodintro
  rw [read_half]
  iapply Hk
  iexists f
  isplitr
  · ipureintro; rfl
  iexact H

/-- A store of a half. -/
theorem store_half (d : Bool) (b : Fin 2) (c : Dev nD) (X w : S1024x1024.Idx → Elt F .bf16)
    (hx : ((ringBuf d).access (halfR b)).Stores Finset.univ) (hm) {Q : PUnit → sProp 𝕄} :
    owns (c : Thread nD τ) (halfM d b) fullShare X ⊢ iprop((owns (c : Thread nD τ) (halfM d b) fullShare w -∗ Q ⟨⟩)
      -∗ wpR c (Prog.lift (.store (ringBuf d) (halfR b) (k0_pay2 w) Finset.univ hx hm)) Q) := by
  unfold owns Prog.lift
  iintro ⟨%f, %hf, H⟩ Hk
  have hS : ((ringBuf d).access (halfR b)).setOn Finset.univ ⊆ (halfM d b).view.set := by
    rw [half_set, View.setOn_univ]
    show ((ringBuf d).view.slice (halfR b)).set ⊆ _
    rw [View.set_slice]
    exact Finset.Subset.refl _
  iapply (wp_store 𝒱₀ (c : Thread nD τ) none Set.univ (m := ringBuf d) (r := halfR b) (w := k0_pay2 w) (Mk := Finset.univ) (hx := hx) (hm := hm) (S := (halfM d b).view.set) (f := f) hS) $$ H
  iintro H
  rw [wp_ret]
  imodintro
  iapply Hk
  iexists (((ringBuf d).access (halfR b)).write (Elt F) f (k0_pay2 w) Finset.univ)
  isplitr
  · ipureintro
    refine (half_read d b _).trans ?_
    have e : (((ringBuf d).view.slice (halfR b)).read (Elt F) (((ringBuf d).access (halfR b)).write (Elt F) f (k0_pay2 w) Finset.univ) : S1x1024x1024.Idx → Elt F .bf16)
        = k0_pay2 (F := F) w := View.read_write_univ _ _
    rw [e, pay2_eq]
    exact shapeCast_shapeCast _ _ _
  iexact H

end Cert.Proof.RunKernelIdeal
-- ==== Proof.RunKernelIdeal.RingBody.lean ====
/-
  ONE DEVICE'S RUN OF THE RING: a hop as a whole, and the body as the barrier, the first hop, five hops alike, a hop that gives no credit, and a last sum.
-/
module

public import proofs.«01_k».proof.Proof.RunKernelIdeal.Mem

@[expose] public section

set_option synthInstance.maxSize 4096

noncomputable section

namespace Cert.Proof.RunKernelIdeal

open Idealize.ShloMosaic Idealize.SL Idealize.SL.RA Idealize.SL.BI Idealize.SL.BI.BIBase Idealize.SL.BI.Laws Idealize.SL.ProofMode Idealize.SL.Sem
open Idealize.ShloMosaic.Rounds (URounds Schedule dutyTok openTok reached atPos cellInv)
open Idealize.ShloMosaic.TcCoe Idealize.ShloMosaic.TalkSites Idealize.ShloMosaic.SiteBlocks
open scoped Idealize.SL.BI
open Cert.KernelIdeal Cert.KernelIdeal.Gen

variable {F : FTy → Type} [FloatOps F] {U : Type} [URA U]
local notation "𝕄" => MT nD τ sig ℕ (Elt F) ℕ U ℕ

/-! ## The single loads and stores of the body -/

section Steps0
variable (arg0 : Memref sig .tc .vmem S1024x512 .bf16) (arg1 : Memref sig .tc .vmem S1024x32 .bf16) (arg5 : Memref sig .tc .vmem S1024x1024 .f32)

theorem zero_off2 : (![0, 0] : Fin 2 → ℕ) = fun _ => 0 := by decide

/-- Column n of the mask. -/
def colAt (A : S1024x32.Idx → Elt F .bf16) (n : Fin 32) : Vec F S1024x1 .bf16 :=
  fun x => A ((Rect.unit (s := S1024x32) ![0, n.val] S1024x1.size (col_inb n)).emb x)

theorem wp_loadX (c : Dev nD) (q : PosShare TreeShare) (X : S1024x512.Idx → Elt F .bf16) {Q : Vec F S1024x512 .bf16 → sProp 𝕄} :
    owns (c : Thread nD τ) arg0 q X ⊢ iprop((owns (c : Thread nD τ) arg0 q X -∗ Q X) -∗ wpR c (loadX arg0) Q) :=
  load_full arg0 c q X _ zero_off2 _ _
theorem wp_loadW (arg : Memref sig .tc .vmem S1024x1024 .bf16) (c : Dev nD) (q : PosShare TreeShare) (X : S1024x1024.Idx → Elt F .bf16) {Q : Vec F S1024x1024 .bf16 → sProp 𝕄} :
    owns (c : Thread nD τ) arg q X ⊢ iprop((owns (c : Thread nD τ) arg q X -∗ Q X) -∗ wpR c (loadW arg) Q) :=
  load_full arg c q X _ zero_off2 _ _
theorem wp_loadOut (c : Dev nD) (q : PosShare TreeShare) (X : S1024x1024.Idx → Elt F .f32) {Q : Vec F S1024x1024 .f32 → sProp 𝕄} :
    owns (c : Thread nD τ) arg5 q X ⊢ iprop((owns (c : Thread nD τ) arg5 q X -∗ Q X) -∗ wpR c (loadOut arg5) Q) :=
  load_full arg5 c q X _ zero_off2 _ _
theorem wp_storeOut (c : Dev nD) (X v : Vec F S1024x1024 .f32) {Q : PUnit → sProp 𝕄} :
    owns (c : Thread nD τ) arg5 fullShare X ⊢ iprop((owns (c : Thread nD τ) arg5 fullShare v -∗ Q ⟨⟩) -∗ wpR c (storeOut arg5 v) Q) :=
  store_full arg5 c X v _ zero_off2 _ _ _
theorem wp_loadCol (c : Dev nD) (q : PosShare TreeShare) (A : S1024x32.Idx → Elt F .bf16) (n : Fin 32) {Q : Vec F S1024x1 .bf16 → sProp 𝕄} :
    owns (c : Thread nD τ) arg1 q A ⊢ iprop((owns (c : Thread nD τ) arg1 q A -∗ Q (colAt A n)) -∗ wpR c (loadCol arg1 n) Q) :=
  load_rect arg1 c q A (Rect.unit (s := S1024x32) ![0, n.val] S1024x1.size (col_inb n)) _
theorem wp_loadHalf (d : Bool) (h : ℕ) (c : Dev nD) (q : PosShare TreeShare) (X : S1024x1024.Idx → Elt F .bf16) {Q : Vec F S1x1024x1024 .bf16 → sProp 𝕄} :
    owns (c : Thread nD τ) (halfM d (cur h)) q X ⊢ iprop((owns (c : Thread nD τ) (halfM d (cur h)) q X -∗ Q (k0_pay2 X)) -∗ wpR c (loadHalf d h) Q) :=
  load_half d (cur h) c q X _
theorem wp_loadZero (d : Bool) (c : Dev nD) (q : PosShare TreeShare) (X : S1024x1024.Idx → Elt F .bf16) {Q : Vec F S1x1024x1024 .bf16 → sProp 𝕄} :
    owns (c : Thread nD τ) (halfM d 0) q X ⊢ iprop((owns (c : Thread nD τ) (halfM d 0) q X -∗ Q (k0_pay2 X)) -∗ wpR c (loadZero d) Q) :=
  load_half d 0 c q X _
theorem wp_storeZero (d : Bool) (c : Dev nD) (X w : S1024x1024.Idx → Elt F .bf16) {Q : PUnit → sProp 𝕄} :
    owns (c : Thread nD τ) (halfM d 0) fullShare X ⊢ iprop((owns (c : Thread nD τ) (halfM d 0) fullShare w -∗ Q ⟨⟩) -∗ wpR c (storeZero d w) Q) :=
  store_half d 0 c X w _ _
end Steps0

/-! ## The sums -/

section Body
variable (E : Recs F U) [E.LandsIn (upEmb : UEmb _ (MT nD τ sig ℕ (Elt F) ℕ U ℕ))] (Wt : Weights F) (κ : GSem nD τ sig → ℕ)
  (arg0 : Memref sig .tc .vmem S1024x512 .bf16) (arg1 : Memref sig .tc .vmem S1024x32 .bf16) (arg2 arg3 : Memref sig .tc .vmem S1024x1024 .bf16)
  (arg5 : Memref sig .tc .vmem S1024x1024 .f32) (X : S1024x512.Idx → Elt F .bf16) (A : S1024x32.Idx → Elt F .bf16)

/-- What the result's window holds after the sum of hop h. -/
def sumTo (c : Dev nD) : ℕ → Vec F S1024x1024 .f32
  | 0 => k0_pay4 X (colAt A 0) (colAt A 1) (k0_pay2 (Wt false (orig false c 0))) (colAt A 2) (colAt A 3) (k0_pay2 (Wt true (orig true c 0)))
  | h + 1 => k0_pay5 X (colAt A (colOf (h + 1) 0)) (colAt A (colOf (h + 1) 1)) (k0_pay2 (Wt false (orig false c (h + 1))))
      (colAt A (colOf (h + 1) 2)) (colAt A (colOf (h + 1) 3)) (k0_pay2 (Wt true (orig true c (h + 1)))) (sumTo c h)

/-- The windows the sums read and write. -/
def Args (c : Dev nD) (Y : Vec F S1024x1024 .f32) : sProp 𝕄 :=
  iprop(owns (c : Thread nD τ) arg0 fullShare X ∗ owns (c : Thread nD τ) arg1 fullShare A ∗ owns (c : Thread nD τ) arg5 fullShare Y)

theorem wp_computeFirst (c : Dev nD) (q : PosShare TreeShare) (Y : Vec F S1024x1024 .f32) {Q : PUnit → sProp 𝕄} :
    iprop(Args (U := U) arg0 arg1 arg5 X A c Y ∗ heldHalf Wt false c 0 q ∗ heldHalf Wt true c 0 q)
      ⊢ iprop((iprop(Args arg0 arg1 arg5 X A c (sumTo Wt X A c 0) ∗ heldHalf Wt false c 0 q ∗ heldHalf Wt true c 0 q) -∗ Q ⟨⟩)
        -∗ wpR c (computeFirst arg0 arg1 arg5) Q) := by
  unfold Args heldHalf computeFirst
  iintro ⟨⟨Hx, Ha, Hy⟩, Hf, Ht⟩ Hk
  rw [wpR_bind]
  iapply (wp_loadX arg0 c fullShare X) $$ Hx
  iintro Hx
  rw [wpR_bind]
  iapply (wp_loadCol arg1 c fullShare A 0) $$ Ha
  iintro Ha
  rw [wpR_bind]
  iapply (wp_loadCol arg1 c fullShare A 1) $$ Ha
  iintro Ha
  rw [wpR_bind]
  iapply (wp_loadHalf false 0 c q (Wt false (orig false c 0))) $$ Hf
  iintro Hf
  rw [wpR_bind]
  iapply (wp_loadCol arg1 c fullShare A 2) $$ Ha
  iintro Ha
  rw [wpR_bind]
  iapply (wp_loadCol arg1 c fullShare A 3) $$ Ha
  iintro Ha
  rw [wpR_bind]
  iapply (wp_loadHalf true 0 c q (Wt true (orig true c 0))) $$ Ht
  iintro Ht
  rw [wpR_bind]
  iapply (wp_loadOut arg5 c fullShare Y) $$ Hy
  iintro Hy
  iapply (wp_storeOut arg5 c Y (sumTo Wt X A c 0)) $$ Hy
  iintro Hy
  iapply Hk
  isplitl [Hx Ha Hy]
  · isplitl [Hx]; · iexact Hx
    isplitl [Ha]; · iexact Ha
    iexact Hy
  isplitl [Hf]; · iexact Hf
  iexact Ht

theorem wp_compute (h : ℕ) (c : Dev nD) (q : PosShare TreeShare) {Q : PUnit → sProp 𝕄} :
    iprop(Args (U := U) arg0 arg1 arg5 X A c (sumTo Wt X A c h) ∗ heldHalf Wt false c (h + 1) q ∗ heldHalf Wt true c (h + 1) q)
      ⊢ iprop((iprop(Args arg0 arg1 arg5 X A c (sumTo Wt X A c (h + 1)) ∗ heldHalf Wt false c (h + 1) q ∗ heldHalf Wt true c (h + 1) q) -∗ Q ⟨⟩)
        -∗ wpR c (compute arg0 arg1 arg5 (h + 1)) Q) := by
  unfold Args heldHalf compute
  iintro ⟨⟨Hx, Ha, Hy⟩, Hf, Ht⟩ Hk
  rw [wpR_bind]
  iapply (wp_loadX arg0 c fullShare X) $$ Hx
  iintro Hx
  rw [wpR_bind]
  iapply (wp_loadCol arg1 c fullShare A (colOf (h + 1) 0)) $$ Ha
  iintro Ha
  rw [wpR_bind]
  iapply (wp_loadCol arg1 c fullShare A (colOf (h + 1) 1)) $$ Ha
  iintro Ha
  rw [wpR_bind]
  iapply (wp_loadHalf false (h + 1) c q (Wt false (orig false c (h + 1)))) $$ Hf
  iintro Hf
  rw [wpR_bind]
  iapply (wp_loadCol arg1 c fullShare A (colOf (h + 1) 2)) $$ Ha
  iintro Ha
  rw [wpR_bind]
  iapply (wp_loadCol arg1 c fullShare A (colOf (h + 1) 3)) $$ Ha
  iintro Ha
  rw [wpR_bind]
  iapply (wp_loadHalf true (h + 1) c q (Wt true (orig true c (h + 1)))) $$ Ht
  iintro Ht
  rw [wpR_bind]
  iapply (wp_loadOut arg5 c fullShare (sumTo Wt X A c h)) $$ Hy
  iintro Hy
  rw [wpR_bind]
  iapply (wp_loadOut arg5 c fullShare (sumTo Wt X A c h)) $$ Hy
  iintro Hy
  iapply (wp_storeOut arg5 c (sumTo Wt X A c h) (sumTo Wt X A c (h + 1))) $$ Hy
  iintro Hy
  iapply Hk
  isplitl [Hx Ha Hy]
  · isplitl [Hx]; · iexact Hx
    isplitl [Ha]; · iexact Ha
    iexact Hy
  isplitl [Hf]; · iexact Hf
  iexact Ht

/-- A weight matrix put in half 0. -/
theorem wp_put (d : Bool) (arg : Memref sig .tc .vmem S1024x1024 .bf16) (c : Dev nD) {Q : PUnit → sProp 𝕄} :
    iprop(owns (c : Thread nD τ) arg fullShare (Wt d c) ∗ anyHalf d c 0)
      ⊢ iprop((iprop(owns (c : Thread nD τ) arg fullShare (Wt d c) ∗ heldHalf Wt d c 0 fullShare) -∗ Q ⟨⟩) -∗ wpR c (putFirst d arg) Q) := by
  have e : heldHalf (U := U) Wt d c 0 fullShare = owns (c : Thread nD τ) (halfM d 0) fullShare (Wt d c) := by
    unfold heldHalf; rw [orig_zero]; rfl
  rw [e]
  unfold anyHalf putFirst
  iintro ⟨Hw, %Z, Hz⟩ Hk
  rw [wpR_bind]
  iapply (wp_loadW arg c fullShare (Wt d c)) $$ Hw
  iintro Hw
  rw [wpR_bind]
  iapply (wp_loadZero d c fullShare Z) $$ Hz
  iintro Hz
  iapply (wp_storeZero d c Z (Wt d c)) $$ Hz
  iintro Hz
  iapply Hk
  isplitl [Hw]; · iexact Hw
  iexact Hz

/-! ## Positions -/

/-- The send counters of direction d before hop h. -/
def PosS (d : Bool) (c : Dev nD) (h : ℕ) : sProp 𝕄 :=
  iprop(atPos E ((c : Thread nD τ), sC d (cur h)) (h / 2) ∅ 0 ∗ reached E ((c : Thread nD τ), sC d (cur h)) (h / 2)
    ∗ atPos E ((c : Thread nD τ), sC d (cur (h + 1))) ((h + 1) / 2) ∅ 0 ∗ reached E ((c : Thread nD τ), sC d (cur (h + 1))) ((h + 1) / 2))
/-- The receive counters of direction d before hop h. -/
def PosR (d : Bool) (c : Dev nD) (h : ℕ) : sProp 𝕄 :=
  iprop(atPos E ((c : Thread nD τ), rC d (cur (h + 1))) (h / 2) ∅ 0 ∗ reached E ((c : Thread nD τ), rC d (cur (h + 1))) (h / 2)
    ∗ atPos E ((c : Thread nD τ), rC d (cur h)) ((h + 1) / 2) ∅ 0 ∗ reached E ((c : Thread nD τ), rC d (cur h)) ((h + 1) / 2))
/-- The credit counter of direction d once k credits are taken. -/
def PosC (d : Bool) (c : Dev nD) (k : ℕ) : sProp 𝕄 := iprop(atPos E ((c : Thread nD τ), cC d) k ∅ 0 ∗ reached E ((c : Thread nD τ), cC d) k)
theorem posS_next (d : Bool) (c : Dev nD) (h : ℕ) : PosS E d c (h + 1) =
    iprop(atPos E ((c : Thread nD τ), sC d (cur (h + 1))) ((h + 1) / 2) ∅ 0 ∗ reached E ((c : Thread nD τ), sC d (cur (h + 1))) ((h + 1) / 2)
      ∗ atPos E ((c : Thread nD τ), sC d (cur h)) (h / 2 + 1) ∅ 0 ∗ reached E ((c : Thread nD τ), sC d (cur h)) (h / 2 + 1)) := by
  unfold PosS
  rw [show cur (h + 1 + 1) = cur h from cur_two h, show (h + 1 + 1) / 2 = h / 2 + 1 by omega]
theorem posR_next (d : Bool) (c : Dev nD) (h : ℕ) : PosR E d c (h + 1) =
    iprop(atPos E ((c : Thread nD τ), rC d (cur h)) ((h + 1) / 2) ∅ 0 ∗ reached E ((c : Thread nD τ), rC d (cur h)) ((h + 1) / 2)
      ∗ atPos E ((c : Thread nD τ), rC d (cur (h + 1))) (h / 2 + 1) ∅ 0 ∗ reached E ((c : Thread nD τ), rC d (cur (h + 1))) (h / 2 + 1)) := by
  unfold PosR
  rw [show cur (h + 1 + 1) = cur h from cur_two h, show (h + 1 + 1) / 2 = h / 2 + 1 by omega]

/-! ## What a device holds in one direction, at the stages of a hop -/

/-- The rights that hop h's copy uses. -/
def Bun (d : Bool) (c : Dev nD) (h : ℕ) : sProp 𝕄 :=
  iprop(dutyTok E ((dst d c : Thread nD τ), rC d (cur (h + 1))) (h / 2) (c, iR d h) ∗ dutyTok E ((c : Thread nD τ), sC d (cur h)) (h / 2) (c, iS d h)
    ∗ cred (tallyAt ((c : Thread nD τ), rC d (cur (h + 1))) (4 + 2 * h) N1))
/-- The right to give hop h's credit, and the credit owed to the device after hop h. -/
def TokC (d : Bool) (c : Dev nD) (h : ℕ) : sProp 𝕄 := dutyTok E ((dst (!d) c : Thread nD τ), cC d) h (c, iC d h)
def CredC (d : Bool) (c : Dev nD) (h : ℕ) : sProp 𝕄 := cred (tallyAt ((c : Thread nD τ), cC d) (5 + 2 * h) 1)
/-- Before the copy. -/
def Ready (d : Bool) (c : Dev nD) (h : ℕ) : sProp 𝕄 :=
  iprop(heldHalf Wt d c h fullShare ∗ mayWrite E d (dst d c) (cur (h + 1)) (h / 2) ∗ reached E ((c : Thread nD τ), cC d) h ∗ PosS E d c h ∗ PosR E d c h ∗ Bun E d c h)
/-- While the copy is in flight. -/
def Flying (d : Bool) (c : Dev nD) (h : ℕ) : sProp 𝕄 :=
  iprop(heldHalf Wt d c h fullShare.right ∗ cred (tallyAt ((c : Thread nD τ), sC d (cur h)) 0 N1) ∗ PosS E d c h ∗ PosR E d c h
    ∗ cred (tallyAt ((c : Thread nD τ), rC d (cur (h + 1))) (4 + 2 * h) N1))
/-- Once it has left. -/
def Sent (d : Bool) (c : Dev nD) (h : ℕ) : sProp 𝕄 :=
  iprop(heldHalf Wt d c h fullShare ∗ PosS E d c (h + 1) ∗ PosR E d c h ∗ cred (tallyAt ((c : Thread nD τ), rC d (cur (h + 1))) (4 + 2 * h) N1))
/-- Once the neighbour's has come. -/
def Come (d : Bool) (c : Dev nD) (h : ℕ) : sProp 𝕄 :=
  iprop(heldHalf Wt d c h fullShare ∗ heldHalf Wt d c (h + 1) fullShare ∗ PosS E d c (h + 1) ∗ PosR E d c (h + 1) ∗ reached E ((dst (!d) c : Thread nD τ), cC d) h)
/-- After the credit is given. -/
def After (d : Bool) (c : Dev nD) (h : ℕ) : sProp 𝕄 := iprop(heldHalf Wt d c (h + 1) fullShare ∗ PosS E d c (h + 1) ∗ PosR E d c (h + 1))

theorem one_start (d : Bool) {h n n' : ℕ} (hh : h < 7) (hn : n = iR d h) (hn' : n' = n + 1) (c : Dev nD) {e : Dev nD} (he : e = dst d c) {Q : PUnit → sProp 𝕄} :
    iprop(rI E Wt κ ∗ Owes c (rOwed c n) ∗ Ready E Wt d c h)
      ⊢ iprop((iprop(Owes c (rOwed c n') ∗ Flying E Wt d c h) -∗ Q ⟨⟩) -∗ wpR c (startCopy d h e) Q) := by
  subst hn' hn
  unfold Ready Flying PosS Bun
  iintro ⟨#HI, HO, Hh, Hm, #Hc, ⟨Ha, #Hr, Ha', #Hr'⟩, HR, Htr, Hts, Hcr⟩ Hk
  iapply (step_copy E Wt κ d hh c he) $$ [HO Hh Hm Htr Hts]
  · isplitr; · iexact HI
    isplitl [HO]; · iexact HO
    isplitl [Hh]; · iexact Hh
    isplitl [Hm]; · iexact Hm
    isplitr; · iexact Hc
    isplitr; · iexact Hr
    isplitl [Htr] <;> iassumption
  iintro ⟨HO, Hh, Hs⟩
  iapply Hk
  isplitl [HO]; · iexact HO
  isplitl [Hh]; · iexact Hh
  isplitl [Hs]; · iexact Hs
  isplitl [Ha Ha']
  · isplitl [Ha]; · iexact Ha
    isplitr; · iexact Hr
    isplitl [Ha']; · iexact Ha'
    iexact Hr'
  isplitl [HR]; · iexact HR
  iexact Hcr

theorem one_sent (d : Bool) {h : ℕ} (hh : h < 7) (c : Dev nD) {Q : PUnit → sProp 𝕄} :
    iprop(rI E Wt κ ∗ levAts (L 20) lv ∗ Owes c (rOwed c (4 + 4 * h)) ∗ Flying E Wt d c h)
      ⊢ iprop((iprop(Owes c (rOwed c (4 + 4 * h)) ∗ Sent E Wt d c h) -∗ Q ⟨⟩) -∗ wpR c (waitSent d h) Q) := by
  unfold Sent
  rw [posS_next]
  unfold Flying PosS
  iintro ⟨#HI, #HL, HO, Hh, Hs, ⟨Ha, #Hr, Ha', #Hr'⟩, HR, Hcr⟩ Hk
  iapply (step_sent E Wt κ d hh c) $$ [HO Hh Hs Ha]
  · isplitr; · iexact HI
    isplitr; · iexact HL
    isplitl [HO]; · iexact HO
    isplitl [Ha]; · iexact Ha
    isplitl [Hs] <;> iassumption
  iintro ⟨HO, Ha, #Hr2, Hh⟩
  iapply Hk
  isplitl [HO]; · iexact HO
  isplitl [Hh]; · iexact Hh
  isplitl [Ha Ha']
  · isplitl [Ha']; · iexact Ha'
    isplitr; · iexact Hr'
    isplitl [Ha]; · iexact Ha
    iexact Hr2
  isplitl [HR]; · iexact HR
  iexact Hcr

theorem one_come (d : Bool) {h : ℕ} (hh : h < 7) (c : Dev nD) {Q : PUnit → sProp 𝕄} :
    iprop(rI E Wt κ ∗ levAts (L 20) lv ∗ Owes c (rOwed c (4 + 4 * h)) ∗ Sent E Wt d c h)
      ⊢ iprop((iprop(Owes c (rOwed c (4 + 4 * h)) ∗ Come E Wt d c h) -∗ Q ⟨⟩) -∗ wpR c (waitCome d h) Q) := by
  unfold Come
  rw [posR_next]
  unfold Sent PosR
  iintro ⟨#HI, #HL, HO, Hh, HS, ⟨Ha, #Hr, Ha', #Hr'⟩, Hcr⟩ Hk
  iapply (step_come E Wt κ d hh c) $$ [HO Ha Hcr]
  · isplitr; · iexact HI
    isplitr; · iexact HL
    isplitl [HO]; · iexact HO
    isplitl [Ha] <;> iassumption
  iintro ⟨HO, Ha, #Hr2, Hh', #Hq⟩
  iapply Hk
  isplitl [HO]; · iexact HO
  isplitl [Hh]; · iexact Hh
  isplitl [Hh']; · iexact Hh'
  isplitl [HS]; · iexact HS
  isplitl [Ha Ha']
  · isplitl [Ha']; · iexact Ha'
    isplitr; · iexact Hr'
    isplitl [Ha]; · iexact Ha
    iexact Hr2
  iexact Hq

theorem one_give (d : Bool) {h n n' : ℕ} (hh : h < 6) (hn : n = iC d h) (hn' : n' = n + 1) (c : Dev nD) {e : Dev nD} (he : e = dst (!d) c) {Q : PUnit → sProp 𝕄} :
    iprop(rI E Wt κ ∗ Owes c (rOwed c n) ∗ Come E Wt d c h ∗ TokC E d c h)
      ⊢ iprop((iprop(Owes c (rOwed c n') ∗ After E Wt d c h) -∗ Q ⟨⟩) -∗ wpR c (semSignalWord e (credSem d) 1#32) Q) := by
  subst hn' hn
  unfold After Come TokC
  rw [posR_next]
  iintro ⟨#HI, HO, ⟨Hh, Hh', HS, ⟨Ha', #Hr', Ha, #Hr2⟩, #Hq⟩, Ht⟩ Hk
  iapply (step_give E Wt κ d hh c he) $$ [HO Hh Ht]
  · isplitr; · iexact HI
    isplitl [HO]; · iexact HO
    isplitl [Ht]; · iexact Ht
    isplitr; · iexact Hq
    isplitl [Hh]; · iexact Hh
    iexact Hr'
  iintro HO
  iapply Hk
  isplitl [HO]; · iexact HO
  isplitl [Hh']; · iexact Hh'
  isplitl [HS]; · iexact HS
  isplitl [Ha']; · iexact Ha'
  isplitr; · iexact Hr'
  isplitl [Ha]; · iexact Ha
  iexact Hr2

theorem one_take (d : Bool) {h : ℕ} (hh : h < 6) (c : Dev nD) {Q : PUnit → sProp 𝕄} :
    iprop(rI E Wt κ ∗ levAts (L 20) lv ∗ Owes c (rOwed c (2 + 4 * (h + 1))) ∗ After E Wt d c h ∗ PosC E d c h ∗ CredC d c h ∗ Bun E d c (h + 1))
      ⊢ iprop((iprop(Owes c (rOwed c (2 + 4 * (h + 1))) ∗ Ready E Wt d c (h + 1) ∗ PosC E d c (h + 1)) -∗ Q ⟨⟩) -∗ wpR c (semWaitWord (credSem d) 1#32) Q) := by
  unfold After PosC CredC Ready
  rw [show cur (h + 1 + 1) = cur h from cur_two h]
  iintro ⟨#HI, #HL, HO, ⟨Hh, HS, HR⟩, ⟨Ha, -⟩, Hc, HB⟩ Hk
  iapply (step_take E Wt κ d hh c) $$ [HO Ha Hc]
  · isplitr; · iexact HI
    isplitr; · iexact HL
    isplitl [HO]; · iexact HO
    isplitl [Ha] <;> iassumption
  iintro ⟨HO, Ha, #Hr, Hm⟩
  iapply Hk
  isplitl [HO]; · iexact HO
  isplitr [Ha]
  · isplitl [Hh]; · iexact Hh
    isplitl [Hm]; · iexact Hm
    isplitr; · iexact Hr
    isplitl [HS]; · iexact HS
    isplitl [HR]; · iexact HR
    iexact HB
  isplitl [Ha]; · iexact Ha
  iexact Hr

/-! ## Both directions -/

theorem wp_takes {h : ℕ} (hh : h < 6) (c : Dev nD) {Q : PUnit → sProp 𝕄} :
    iprop(rI E Wt κ ∗ levAts (L 20) lv ∗ Owes c (rOwed c (2 + 4 * (h + 1))) ∗ (After E Wt false c h ∗ PosC E false c h ∗ CredC false c h ∗ Bun E false c (h + 1))
        ∗ (After E Wt true c h ∗ PosC E true c h ∗ CredC true c h ∗ Bun E true c (h + 1)))
      ⊢ iprop((iprop(Owes c (rOwed c (2 + 4 * (h + 1))) ∗ (Ready E Wt false c (h + 1) ∗ PosC E false c (h + 1)) ∗ (Ready E Wt true c (h + 1) ∗ PosC E true c (h + 1))) -∗ Q ⟨⟩)
        -∗ wpR c takeCredits Q) := by
  unfold takeCredits
  iintro ⟨#HI, #HL, HO, Hf, Ht⟩ Hk
  rw [wpR_bind]
  iapply (one_take E Wt κ false hh c) $$ [HO Hf]
  · isplitr; · iexact HI
    isplitr; · iexact HL
    isplitl [HO]; · iexact HO
    iexact Hf
  iintro ⟨HO, Hf⟩
  iapply (one_take E Wt κ true hh c) $$ [HO Ht]
  · isplitr; · iexact HI
    isplitr; · iexact HL
    isplitl [HO]; · iexact HO
    iexact Ht
  iintro ⟨HO, Ht⟩
  iapply Hk
  isplitl [HO]; · iexact HO
  isplitl [Hf]; · iexact Hf
  iexact Ht

theorem wp_start {h : ℕ} (hh : h < 7) (c : Dev nD) {e e' : Dev nD} (he : e = dst false c) (he' : e' = dst true c) {Q : PUnit → sProp 𝕄} :
    iprop(rI E Wt κ ∗ Owes c (rOwed c (2 + 4 * h)) ∗ Ready E Wt false c h ∗ Ready E Wt true c h)
      ⊢ iprop((iprop(Owes c (rOwed c (4 + 4 * h)) ∗ Flying E Wt false c h ∗ Flying E Wt true c h) -∗ Q ⟨⟩) -∗ wpR c (startCopies h e e') Q) := by
  unfold startCopies
  iintro ⟨#HI, HO, Hf, Ht⟩ Hk
  rw [wpR_bind]
  iapply (one_start E Wt κ false (n := 2 + 4 * h) (n' := 3 + 4 * h) hh (show _ = 2 + 4 * h + 0 by omega) (by omega) c he) $$ [HO Hf]
  · isplitr; · iexact HI
    isplitl [HO]; · iexact HO
    iexact Hf
  iintro ⟨HO, Hf⟩
  iapply (one_start E Wt κ true (n := 3 + 4 * h) (n' := 4 + 4 * h) hh (show _ = 2 + 4 * h + 1 by omega) (by omega) c he') $$ [HO Ht]
  · isplitr; · iexact HI
    isplitl [HO]; · iexact HO
    iexact Ht
  iintro ⟨HO, Ht⟩
  iapply Hk
  isplitl [HO]; · iexact HO
  isplitl [Hf]; · iexact Hf
  iexact Ht

theorem wp_waits {h : ℕ} (hh : h < 7) (c : Dev nD) {Q : PUnit → sProp 𝕄} :
    iprop(rI E Wt κ ∗ levAts (L 20) lv ∗ Owes c (rOwed c (4 + 4 * h)) ∗ Flying E Wt false c h ∗ Flying E Wt true c h)
      ⊢ iprop((iprop(Owes c (rOwed c (4 + 4 * h)) ∗ Come E Wt false c h ∗ Come E Wt true c h) -∗ Q ⟨⟩) -∗ wpR c (waitCopies h) Q) := by
  unfold waitCopies
  iintro ⟨#HI, #HL, HO, Hf, Ht⟩ Hk
  rw [wpR_bind]
  iapply (one_sent E Wt κ false hh c) $$ [HO Hf]
  · isplitr; · iexact HI
    isplitr; · iexact HL
    isplitl [HO]; · iexact HO
    iexact Hf
  iintro ⟨HO, Hf⟩
  rw [wpR_bind]
  iapply (one_come E Wt κ false hh c) $$ [HO Hf]
  · isplitr; · iexact HI
    isplitr; · iexact HL
    isplitl [HO]; · iexact HO
    iexact Hf
  iintro ⟨HO, Hf⟩
  rw [wpR_bind]
  iapply (one_sent E Wt κ true hh c) $$ [HO Ht]
  · isplitr; · iexact HI
    isplitr; · iexact HL
    isplitl [HO]; · iexact HO
    iexact Ht
  iintro ⟨HO, Ht⟩
  iapply (one_come E Wt κ true hh c) $$ [HO Ht]
  · isplitr; · iexact HI
    isplitr; · iexact HL
    isplitl [HO]; · iexact HO
    iexact Ht
  iintro ⟨HO, Ht⟩
  iapply Hk
  isplitl [HO]; · iexact HO
  isplitl [Hf]; · iexact Hf
  iexact Ht

theorem wp_gives {h n : ℕ} (hh : h < 6) (hn : n = 6 + 4 * h) (c : Dev nD) {e e' : Dev nD} (he : e = dst true c) (he' : e' = dst false c) {Q : PUnit → sProp 𝕄} :
    iprop(rI E Wt κ ∗ Owes c (rOwed c (4 + 4 * h)) ∗ (Come E Wt false c h ∗ TokC E false c h) ∗ (Come E Wt true c h ∗ TokC E true c h))
      ⊢ iprop((iprop(Owes c (rOwed c n) ∗ After E Wt false c h ∗ After E Wt true c h) -∗ Q ⟨⟩) -∗ wpR c (giveCredits e e') Q) := by
  unfold giveCredits
  iintro ⟨#HI, HO, Hf, Ht⟩ Hk
  rw [wpR_bind]
  iapply (one_give E Wt κ false (n := 4 + 4 * h) (n' := 5 + 4 * h) hh (show _ = 4 + 4 * h + 0 by omega) (by omega) c he) $$ [HO Hf]
  · isplitr; · iexact HI
    isplitl [HO]; · iexact HO
    iexact Hf
  iintro ⟨HO, Hf⟩
  iapply (one_give E Wt κ true (n := 5 + 4 * h) (n' := n) hh (show _ = 4 + 4 * h + 1 by omega) (by omega) c he') $$ [HO Ht]
  · isplitr; · iexact HI
    isplitl [HO]; · iexact HO
    iexact Ht
  iintro ⟨HO, Ht⟩
  iapply Hk
  isplitl [HO]; · iexact HO
  isplitl [Hf]; · iexact Hf
  iexact Ht

/-- The sum of a later hop, while the copies are in flight. -/
theorem flying_compute (h : ℕ) (c : Dev nD) {Q : PUnit → sProp 𝕄} :
    iprop(Args arg0 arg1 arg5 X A c (sumTo Wt X A c h) ∗ Flying E Wt false c (h + 1) ∗ Flying E Wt true c (h + 1))
      ⊢ iprop((iprop(Args arg0 arg1 arg5 X A c (sumTo Wt X A c (h + 1)) ∗ Flying E Wt false c (h + 1) ∗ Flying E Wt true c (h + 1)) -∗ Q ⟨⟩)
        -∗ wpR c (compute arg0 arg1 arg5 (h + 1)) Q) := by
  unfold Flying
  iintro ⟨Ha, ⟨Hf, HF⟩, ⟨Ht, HT⟩⟩ Hk
  iapply (wp_compute Wt arg0 arg1 arg5 X A h c fullShare.right) $$ [Ha Hf Ht]
  · isplitl [Ha]; · iexact Ha
    isplitl [Hf] <;> iassumption
  iintro ⟨Ha, Hf, Ht⟩
  iapply Hk
  isplitl [Ha]; · iexact Ha
  isplitl [Hf HF]
  · isplitl [Hf]; · iexact Hf
    iexact HF
  isplitl [Ht]; · iexact Ht
  iexact HT
theorem flying_computeFirst (c : Dev nD) (Y : Vec F S1024x1024 .f32) {Q : PUnit → sProp 𝕄} :
    iprop(Args arg0 arg1 arg5 X A c Y ∗ Flying E Wt false c 0 ∗ Flying E Wt true c 0)
      ⊢ iprop((iprop(Args arg0 arg1 arg5 X A c (sumTo Wt X A c 0) ∗ Flying E Wt false c 0 ∗ Flying E Wt true c 0) -∗ Q ⟨⟩)
        -∗ wpR c (computeFirst arg0 arg1 arg5) Q) := by
  unfold Flying
  iintro ⟨Ha, ⟨Hf, HF⟩, ⟨Ht, HT⟩⟩ Hk
  iapply (wp_computeFirst Wt arg0 arg1 arg5 X A c fullShare.right Y) $$ [Ha Hf Ht]
  · isplitl [Ha]; · iexact Ha
    isplitl [Hf] <;> iassumption
  iintro ⟨Ha, Hf, Ht⟩
  iapply Hk
  isplitl [Ha]; · iexact Ha
  isplitl [Hf HF]
  · isplitl [Hf]; · iexact Hf
    iexact HF
  isplitl [Ht]; · iexact Ht
  iexact HT

/-- The copies, a sum and the waits of a hop, before what follows. -/
theorem wp_core {h : ℕ} (hh : h < 7) (c : Dev nD) {e e' : Dev nD} (he : e = dst false c) (he' : e' = dst true c) (p k : Prg F PUnit) (Y Y' : Vec F S1024x1024 .f32)
    (hp : ∀ Q : PUnit → sProp 𝕄, iprop(Args arg0 arg1 arg5 X A c Y ∗ Flying E Wt false c h ∗ Flying E Wt true c h)
      ⊢ iprop((iprop(Args arg0 arg1 arg5 X A c Y' ∗ Flying E Wt false c h ∗ Flying E Wt true c h) -∗ Q ⟨⟩) -∗ wpR c p Q)) {Q : PUnit → sProp 𝕄} :
    iprop(rI E Wt κ ∗ levAts (L 20) lv ∗ Owes c (rOwed c (2 + 4 * h)) ∗ Ready E Wt false c h ∗ Ready E Wt true c h ∗ Args arg0 arg1 arg5 X A c Y)
      ⊢ iprop((iprop(Owes c (rOwed c (4 + 4 * h)) ∗ Come E Wt false c h ∗ Come E Wt true c h ∗ Args arg0 arg1 arg5 X A c Y') -∗ wpR c k Q)
        -∗ wpR c (startCopies h e e' >>= fun _ => p >>= fun _ => waitCopies h >>= fun _ => k) Q) := by
  iintro ⟨#HI, #HL, HO, Hf, Ht, Ha⟩ Hk
  rw [wpR_bind]
  iapply (wp_start E Wt κ hh c he he') $$ [HO Hf Ht]
  · isplitr; · iexact HI
    isplitl [HO]; · iexact HO
    isplitl [Hf] <;> iassumption
  iintro ⟨HO, Hf, Ht⟩
  rw [wpR_bind]
  iapply (hp _) $$ [Ha Hf Ht]
  · isplitl [Ha]; · iexact Ha
    isplitl [Hf] <;> iassumption
  iintro ⟨Ha, Hf, Ht⟩
  rw [wpR_bind]
  iapply (wp_waits E Wt κ hh c) $$ [HO Hf Ht]
  · isplitr; · iexact HI
    isplitr; · iexact HL
    isplitl [HO]; · iexact HO
    isplitl [Hf] <;> iassumption
  iintro ⟨HO, Hf, Ht⟩
  iapply Hk
  isplitl [HO]; · iexact HO
  isplitl [Hf]; · iexact Hf
  isplitl [Ht]; · iexact Ht
  iexact Ha

theorem nb3 (c : Dev nD) (h : ℕ) : nbRing c (3 + 4 * h) = dst false c := by unfold nbRing; rw [if_neg (by omega)]; rfl
theorem nb4 (c : Dev nD) (h : ℕ) : nbRing c (4 + 4 * h) = dst true c := by unfold nbRing; rw [if_pos (by omega)]; rfl
theorem nb5 (c : Dev nD) (h : ℕ) : nbRing c (5 + 4 * h) = dst true c := by unfold nbRing; rw [if_pos (by omega)]; rfl
theorem nb6 (c : Dev nD) (h : ℕ) : nbRing c (6 + 4 * h) = dst false c := by unfold nbRing; rw [if_neg (by omega)]; rfl

/-- What one direction brings to hop h + 1. -/
def Hin (d : Bool) (c : Dev nD) (h : ℕ) : sProp 𝕄 := iprop((After E Wt d c h ∗ PosC E d c h ∗ CredC d c h ∗ Bun E d c (h + 1)) ∗ TokC E d c (h + 1))

theorem wp_hop {h : ℕ} (hh : h < 5) (c : Dev nD) {Q : PUnit → sProp 𝕄} :
    iprop(rI E Wt κ ∗ levAts (L 20) lv ∗ Owes c (rOwed c (2 + 4 * (h + 1))) ∗ Hin E Wt false c h ∗ Hin E Wt true c h ∗ Args arg0 arg1 arg5 X A c (sumTo Wt X A c h))
      ⊢ iprop((iprop(Owes c (rOwed c (2 + 4 * (h + 2))) ∗ (After E Wt false c (h + 1) ∗ PosC E false c (h + 1)) ∗ (After E Wt true c (h + 1) ∗ PosC E true c (h + 1))
          ∗ Args arg0 arg1 arg5 X A c (sumTo Wt X A c (h + 1))) -∗ Q ⟨⟩)
        -∗ wpR c (hop arg0 arg1 arg5 (nbRing c) (h + 1)) Q) := by
  unfold Hin hop
  iintro ⟨#HI, #HL, HO, ⟨Hf, Hcf⟩, ⟨Ht, Hct⟩, Ha⟩ Hk
  rw [wpR_bind]
  iapply (wp_takes E Wt κ (h := h) (by omega) c) $$ [HO Hf Ht]
  · isplitr; · iexact HI
    isplitr; · iexact HL
    isplitl [HO]; · iexact HO
    isplitl [Hf] <;> iassumption
  iintro ⟨HO, ⟨Hf, Hpf⟩, ⟨Ht, Hpt⟩⟩
  iapply (wp_core E Wt κ arg0 arg1 arg5 X A (h := h + 1) (by omega) c (nb3 c (h + 1)) (nb4 c (h + 1)) (compute arg0 arg1 arg5 (h + 1))
    (giveCredits (nbRing c (5 + 4 * (h + 1))) (nbRing c (6 + 4 * (h + 1)))) (sumTo Wt X A c h) (sumTo Wt X A c (h + 1))
    (fun Q => flying_compute E Wt arg0 arg1 arg5 X A h c)) $$ [HO Hf Ht Ha]
  · isplitr; · iexact HI
    isplitr; · iexact HL
    isplitl [HO]; · iexact HO
    isplitl [Hf]; · iexact Hf
    isplitl [Ht] <;> iassumption
  iintro ⟨HO, Hf, Ht, Ha⟩
  iapply (wp_gives E Wt κ (h := h + 1) (n := 2 + 4 * (h + 2)) (by omega) (by omega) c (nb5 c (h + 1)) (nb6 c (h + 1))) $$ [HO Hf Ht Hcf Hct]
  · isplitr; · iexact HI
    isplitl [HO]; · iexact HO
    isplitl [Hf Hcf]
    · isplitl [Hf] <;> iassumption
    isplitl [Ht] <;> iassumption
  iintro ⟨HO, Hf, Ht⟩
  iapply Hk
  isplitl [HO]; · iexact HO
  isplitl [Hf Hpf]
  · isplitl [Hf] <;> iassumption
  isplitl [Ht Hpt]
  · isplitl [Ht] <;> iassumption
  iexact Ha

theorem any_of_held (d : Bool) (c : Dev nD) (h : ℕ) (b : Fin 2) (hb : cur h = b) : heldHalf (U := U) Wt d c h fullShare ⊢ anyHalf d c b := by
  subst hb
  unfold heldHalf anyHalf
  iintro H; iexists _; iexact H

/-- What a device brings to the ring in one direction. -/
def DirIn (d : Bool) (c : Dev nD) : sProp 𝕄 :=
  iprop((anyHalf d c 0 ∗ anyHalf d c 1) ∗ (PosS E d c 0 ∗ PosR E d c 0 ∗ PosC E d c 0)
    ∗ (Bun E d c 0 ∗ Bun E d c 1 ∗ Bun E d c 2 ∗ Bun E d c 3 ∗ Bun E d c 4 ∗ Bun E d c 5 ∗ Bun E d c 6)
    ∗ (TokC E d c 0 ∗ TokC E d c 1 ∗ TokC E d c 2 ∗ TokC E d c 3 ∗ TokC E d c 4 ∗ TokC E d c 5)
    ∗ (CredC d c 0 ∗ CredC d c 1 ∗ CredC d c 2 ∗ CredC d c 3 ∗ CredC d c 4 ∗ CredC d c 5))
/-- What it has at the end. -/
def DirOut (d : Bool) (c : Dev nD) : sProp 𝕄 := iprop((anyHalf d c 0 ∗ anyHalf d c 1) ∗ (PosS E d c 7 ∗ PosR E d c 7 ∗ PosC E d c 6))
/-- What a device brings to the barrier. -/
def BarIn (c : Dev nD) : sProp 𝕄 :=
  iprop(atPos E ((c : Thread nD τ), rB) 0 ∅ 0 ∗ reached E ((dst true c : Thread nD τ), rB) 0 ∗ reached E ((dst false c : Thread nD τ), rB) 0
    ∗ cred (tallyAt ((c : Thread nD τ), rB) 3 2) ∗ dutyTok E ((dst true c : Thread nD τ), rB) 0 (c, 0) ∗ dutyTok E ((dst false c : Thread nD τ), rB) 0 (c, 1))

theorem wp_barrier (c : Dev nD) {Q : PUnit → sProp 𝕄} :
    iprop(rI E Wt κ ∗ levAts (L 20) lv ∗ Owes c (rOwed c 0) ∗ BarIn E c ∗ (anyHalf false c 1 ∗ reached E ((c : Thread nD τ), rC false 1) 0) ∗ (anyHalf true c 1 ∗ reached E ((c : Thread nD τ), rC true 1) 0))
      ⊢ iprop((iprop(Owes c (rOwed c 2) ∗ atPos E ((c : Thread nD τ), rB) 1 ∅ 0 ∗ mayWrite E false (dst false c) 1 0 ∗ mayWrite E true (dst true c) 1 0) -∗ Q ⟨⟩)
        -∗ wpR c (barrier (nbRing c 1) (nbRing c 2)) Q) := by
  unfold BarIn barrier
  iintro ⟨#HI, #HL, HO, ⟨Ha, #Hl, #Hr, Hc, Htl, Htr⟩, ⟨Hf, #Hrf⟩, ⟨Ht, #Hrt⟩⟩ Hk
  rw [wpR_bind]
  iapply (step_bar E Wt κ true c (e := nbRing c 1) rfl) $$ [HO Htl Hf]
  · isplitr; · iexact HI
    isplitl [HO]; · iexact HO
    isplitl [Htl]; · iexact Htl
    isplitr; · iexact Hl
    isplitl [Hf]; · iexact Hf
    iexact Hrf
  iintro HO
  rw [wpR_bind]
  iapply (step_bar E Wt κ false c (e := nbRing c 2) rfl) $$ [HO Htr Ht]
  · isplitr; · iexact HI
    isplitl [HO]; · iexact HO
    isplitl [Htr]; · iexact Htr
    isplitr; · iexact Hr
    isplitl [Ht]; · iexact Ht
    iexact Hrt
  iintro HO
  iapply (step_waitBar E Wt κ c) $$ [HO Ha Hc]
  · isplitr; · iexact HI
    isplitr; · iexact HL
    isplitl [HO]; · iexact HO
    isplitl [Ha] <;> iassumption
  iintro H
  iapply Hk
  iexact H

theorem ring_run (c : Dev nD) (Y : Vec F S1024x1024 .f32) {Q : PUnit → sProp 𝕄} :
    iprop(rI E Wt κ ∗ levAts (L 20) lv ∗ Owes c (rOwed c 0) ∗ BarIn E c ∗ DirIn E false c ∗ DirIn E true c ∗ Args arg0 arg1 arg5 X A c Y
        ∗ owns (c : Thread nD τ) arg2 fullShare (Wt false c) ∗ owns (c : Thread nD τ) arg3 fullShare (Wt true c))
      ⊢ iprop((iprop(Owes c (rOwed c 28) ∗ atPos E ((c : Thread nD τ), rB) 1 ∅ 0 ∗ DirOut E false c ∗ DirOut E true c ∗ Args arg0 arg1 arg5 X A c (sumTo Wt X A c 7)
          ∗ owns (c : Thread nD τ) arg2 fullShare (Wt false c) ∗ owns (c : Thread nD τ) arg3 fullShare (Wt true c)) -∗ Q ⟨⟩)
        -∗ wpR c (ringProg arg0 arg1 arg2 arg3 arg5 nbRing) Q) := by
  unfold DirIn ringProg PosS PosR PosC
  iintro ⟨#HI, #HL, HO, HB, ⟨⟨Zf, Yf⟩, ⟨⟨Saf, #Srf, Sbf, #Ssf⟩, ⟨Raf, #Rrf, Rbf, #Rsf⟩, ⟨Paf, #Prf⟩⟩, ⟨Bf0, Bf1, Bf2, Bf3, Bf4, Bf5, Bf6⟩, ⟨Tf0, Tf1, Tf2, Tf3, Tf4, Tf5⟩, ⟨Cf0, Cf1, Cf2, Cf3, Cf4, Cf5⟩⟩, ⟨⟨Zt, Yt⟩, ⟨⟨Sat, #Srt, Sbt, #Sst⟩, ⟨Rat, #Rrt, Rbt, #Rst⟩, ⟨Pat, #Prt⟩⟩, ⟨Bt0, Bt1, Bt2, Bt3, Bt4, Bt5, Bt6⟩, ⟨Tt0, Tt1, Tt2, Tt3, Tt4, Tt5⟩, ⟨Ct0, Ct1, Ct2, Ct3, Ct4, Ct5⟩⟩, Ha, Hw, Hw'⟩ Hk
  iapply (wpR_dev c _)
  rw [wpR_bind]
  iapply (wp_barrier E Wt κ c) $$ [HO HB Yf Yt]
  · isplitr; · iexact HI
    isplitr; · iexact HL
    isplitl [HO]; · iexact HO
    isplitl [HB]; · iexact HB
    isplitl [Yf]
    · isplitl [Yf]; · iexact Yf
      iexact Rrf
    isplitl [Yt]; · iexact Yt
    iexact Rrt
  iintro ⟨HO, HB, Mf, Mt⟩
  rw [wpR_bind]
  iapply (wp_put Wt false arg2 c) $$ [Hw Zf]
  · isplitl [Hw] <;> iassumption
  iintro ⟨Hw, Kf⟩
  rw [wpR_bind]
  iapply (wp_put Wt true arg3 c) $$ [Hw' Zt]
  · isplitl [Hw'] <;> iassumption
  iintro ⟨Hw', Kt⟩
  iapply (wp_core E Wt κ arg0 arg1 arg5 X A (h := 0) (by decide) c (e := nbRing c 3) (e' := nbRing c 4) rfl rfl (computeFirst arg0 arg1 arg5) _ Y (sumTo Wt X A c 0)
    (fun Q => flying_computeFirst E Wt arg0 arg1 arg5 X A c Y)) $$ [HO Ha Kf Kt Mf Mt Saf Sbf Raf Rbf Sat Sbt Rat Rbt Bf0 Bt0]
  · isplitr; · iexact HI
    isplitr; · iexact HL
    isplitl [HO]; · iexact HO
    isplitl [Kf Mf Saf Sbf Raf Rbf Bf0]
    · unfold Ready PosS PosR
      isplitl [Kf]; · iexact Kf
      isplitl [Mf]; · iexact Mf
      isplitr; · iexact Prf
      isplitl [Saf Sbf]
      · isplitl [Saf]; · iexact Saf
        isplitr; · iexact Srf
        isplitl [Sbf]; · iexact Sbf
        iexact Ssf
      isplitl [Raf Rbf]
      · isplitl [Raf]; · iexact Raf
        isplitr; · iexact Rrf
        isplitl [Rbf]; · iexact Rbf
        iexact Rsf
      iexact Bf0
    isplitl [Kt Mt Sat Sbt Rat Rbt Bt0]
    · unfold Ready PosS PosR
      isplitl [Kt]; · iexact Kt
      isplitl [Mt]; · iexact Mt
      isplitr; · iexact Prt
      isplitl [Sat Sbt]
      · isplitl [Sat]; · iexact Sat
        isplitr; · iexact Srt
        isplitl [Sbt]; · iexact Sbt
        iexact Sst
      isplitl [Rat Rbt]
      · isplitl [Rat]; · iexact Rat
        isplitr; · iexact Rrt
        isplitl [Rbt]; · iexact Rbt
        iexact Rst
      iexact Bt0
    iexact Ha
  iintro ⟨HO, Hf, Ht, Ha⟩
  rw [wpR_bind]
  iapply (wp_gives E Wt κ (h := 0) (n := 2 + 4 * (0 + 1)) (by decide) (by decide) c (e := nbRing c 5) (e' := nbRing c 6) rfl rfl) $$ [HO Hf Ht Tf0 Tt0]
  · isplitr; · iexact HI
    isplitl [HO]; · iexact HO
    isplitl [Hf Tf0]
    · isplitl [Hf] <;> iassumption
    isplitl [Ht] <;> iassumption
  iintro ⟨HO, Hf, Ht⟩
  ihave Hpf := (show iprop(atPos E ((c : Thread nD τ), cC false) 0 ∅ 0 ∗ reached E ((c : Thread nD τ), cC false) 0) ⊢ PosC E false c 0 from BIBase.Entails.rfl) $$ [Paf]
  · isplitl [Paf]; · iexact Paf
    iexact Prf
  ihave Hpt := (show iprop(atPos E ((c : Thread nD τ), cC true) 0 ∅ 0 ∗ reached E ((c : Thread nD τ), cC true) 0) ⊢ PosC E true c 0 from BIBase.Entails.rfl) $$ [Pat]
  · isplitl [Pat]; · iexact Pat
    iexact Prt
  rw [wpR_bind]
  iapply (wp_hop E Wt κ arg0 arg1 arg5 X A (h := 0) (by decide) c) $$ [HO Hf Hpf Ht Hpt Ha Bf1 Bt1 Tf1 Tt1 Cf0 Ct0]
  · isplitr; · iexact HI
    isplitr; · iexact HL
    isplitl [HO]; · iexact HO
    unfold Hin
    isplitl [Hf Hpf Bf1 Tf1 Cf0]
    · isplitr [Tf1]
      · isplitl [Hf]; · iexact Hf
        isplitl [Hpf]; · iexact Hpf
        isplitl [Cf0] <;> iassumption
      · iexact Tf1
    isplitl [Ht Hpt Bt1 Tt1 Ct0]
    · isplitr [Tt1]
      · isplitl [Ht]; · iexact Ht
        isplitl [Hpt]; · iexact Hpt
        isplitl [Ct0] <;> iassumption
      · iexact Tt1
    iexact Ha
  iintro ⟨HO, ⟨Hf, Hpf⟩, ⟨Ht, Hpt⟩, Ha⟩
  rw [wpR_bind]
  iapply (wp_hop E Wt κ arg0 arg1 arg5 X A (h := 1) (by decide) c) $$ [HO Hf Hpf Ht Hpt Ha Bf2 Bt2 Tf2 Tt2 Cf1 Ct1]
  · isplitr; · iexact HI
    isplitr; · iexact HL
    isplitl [HO]; · iexact HO
    unfold Hin
    isplitl [Hf Hpf Bf2 Tf2 Cf1]
    · isplitr [Tf2]
      · isplitl [Hf]; · iexact Hf
        isplitl [Hpf]; · iexact Hpf
        isplitl [Cf1] <;> iassumption
      · iexact Tf2
    isplitl [Ht Hpt Bt2 Tt2 Ct1]
    · isplitr [Tt2]
      · isplitl [Ht]; · iexact Ht
        isplitl [Hpt]; · iexact Hpt
        isplitl [Ct1] <;> iassumption
      · iexact Tt2
    iexact Ha
  iintro ⟨HO, ⟨Hf, Hpf⟩, ⟨Ht, Hpt⟩, Ha⟩
  rw [wpR_bind]
  iapply (wp_hop E Wt κ arg0 arg1 arg5 X A (h := 2) (by decide) c) $$ [HO Hf Hpf Ht Hpt Ha Bf3 Bt3 Tf3 Tt3 Cf2 Ct2]
  · isplitr; · iexact HI
    isplitr; · iexact HL
    isplitl [HO]; · iexact HO
    unfold Hin
    isplitl [Hf Hpf Bf3 Tf3 Cf2]
    · isplitr [Tf3]
      · isplitl [Hf]; · iexact Hf
        isplitl [Hpf]; · iexact Hpf
        isplitl [Cf2] <;> iassumption
      · iexact Tf3
    isplitl [Ht Hpt Bt3 Tt3 Ct2]
    · isplitr [Tt3]
      · isplitl [Ht]; · iexact Ht
        isplitl [Hpt]; · iexact Hpt
        isplitl [Ct2] <;> iassumption
      · iexact Tt3
    iexact Ha
  iintro ⟨HO, ⟨Hf, Hpf⟩, ⟨Ht, Hpt⟩, Ha⟩
  rw [wpR_bind]
  iapply (wp_hop E Wt κ arg0 arg1 arg5 X A (h := 3) (by decide) c) $$ [HO Hf Hpf Ht Hpt Ha Bf4 Bt4 Tf4 Tt4 Cf3 Ct3]
  · isplitr; · iexact HI
    isplitr; · iexact HL
    isplitl [HO]; · iexact HO
    unfold Hin
    isplitl [Hf Hpf Bf4 Tf4 Cf3]
    · isplitr [Tf4]
      · isplitl [Hf]; · iexact Hf
        isplitl [Hpf]; · iexact Hpf
        isplitl [Cf3] <;> iassumption
      · iexact Tf4
    isplitl [Ht Hpt Bt4 Tt4 Ct3]
    · isplitr [Tt4]
      · isplitl [Ht]; · iexact Ht
        isplitl [Hpt]; · iexact Hpt
        isplitl [Ct3] <;> iassumption
      · iexact Tt4
    iexact Ha
  iintro ⟨HO, ⟨Hf, Hpf⟩, ⟨Ht, Hpt⟩, Ha⟩
  rw [wpR_bind]
  iapply (wp_hop E Wt κ arg0 arg1 arg5 X A (h := 4) (by decide) c) $$ [HO Hf Hpf Ht Hpt Ha Bf5 Bt5 Tf5 Tt5 Cf4 Ct4]
  · isplitr; · iexact HI
    isplitr; · iexact HL
    isplitl [HO]; · iexact HO
    unfold Hin
    isplitl [Hf Hpf Bf5 Tf5 Cf4]
    · isplitr [Tf5]
      · isplitl [Hf]; · iexact Hf
        isplitl [Hpf]; · iexact Hpf
        isplitl [Cf4] <;> iassumption
      · iexact Tf5
    isplitl [Ht Hpt Bt5 Tt5 Ct4]
    · isplitr [Tt5]
      · isplitl [Ht]; · iexact Ht
        isplitl [Hpt]; · iexact Hpt
        isplitl [Ct4] <;> iassumption
      · iexact Tt5
    iexact Ha
  iintro ⟨HO, ⟨Hf, Hpf⟩, ⟨Ht, Hpt⟩, Ha⟩
  rw [wpR_bind]
  iapply (wp_takes E Wt κ (h := 5) (by decide) c) $$ [HO Hf Ht Hpf Hpt Cf5 Ct5 Bf6 Bt6]
  · isplitr; · iexact HI
    isplitr; · iexact HL
    isplitl [HO]; · iexact HO
    isplitl [Hf Hpf Cf5 Bf6]
    · isplitl [Hf]; · iexact Hf
      isplitl [Hpf]; · iexact Hpf
      isplitl [Cf5] <;> iassumption
    isplitl [Ht]; · iexact Ht
    isplitl [Hpt]; · iexact Hpt
    isplitl [Ct5] <;> iassumption
  iintro ⟨HO, ⟨Hf, Hpf⟩, ⟨Ht, Hpt⟩⟩
  iapply (wp_core E Wt κ arg0 arg1 arg5 X A (h := 5 + 1) (by decide) c (e := nbRing c 27) (e' := nbRing c 28) rfl rfl (compute arg0 arg1 arg5 (5 + 1)) (compute arg0 arg1 arg5 7)
    (sumTo Wt X A c 5) (sumTo Wt X A c (5 + 1)) (fun Q => flying_compute E Wt arg0 arg1 arg5 X A 5 c)) $$ [HO Hf Ht Ha]
  · isplitr; · iexact HI
    isplitr; · iexact HL
    isplitl [HO]; · iexact HO
    isplitl [Hf]; · iexact Hf
    isplitl [Ht] <;> iassumption
  unfold Come
  iintro ⟨HO, ⟨Kf, Ef, HSf, HRf, -⟩, ⟨Kt, Et, HSt, HRt, -⟩, Ha⟩
  iapply (wp_compute Wt arg0 arg1 arg5 X A 6 c fullShare) $$ [Ha Ef Et]
  · isplitl [Ha]; · iexact Ha
    isplitl [Ef] <;> iassumption
  iintro ⟨Ha, Ef, Et⟩
  iapply Hk
  unfold DirOut
  isplitl [HO]; · iexact HO
  isplitl [HB]; · iexact HB
  isplitl [Ef Kf HSf HRf Hpf]
  · isplitl [Ef Kf]
    · isplitl [Kf]; · iapply (any_of_held Wt _ c 6 0 rfl) $$ Kf
      iapply (any_of_held Wt _ c 7 1 rfl) $$ Ef
    isplitl [HSf]; · iexact HSf
    isplitl [HRf]; · iexact HRf
    iexact Hpf
  isplitl [Et Kt HSt HRt Hpt]
  · isplitl [Et Kt]
    · isplitl [Kt]; · iapply (any_of_held Wt _ c 6 0 rfl) $$ Kt
      iapply (any_of_held Wt _ c 7 1 rfl) $$ Et
    isplitl [HSt]; · iexact HSt
    isplitl [HRt]; · iexact HRt
    iexact Hpt
  isplitl [Ha]; · iexact Ha
  isplitl [Hw]; · iexact Hw
  iexact Hw'
end Body

end Cert.Proof.RunKernelIdeal
-- ==== Proof.RunKernelIdeal.Deal.lean ====
/-
  WHAT A DEVICE STARTS THE RING WITH: its counters' positions, the rights to pay, and the credit, taken out of what the launch gives it; and the counters back at zero when the ring is over.
-/
module

public import proofs.«01_k».proof.Proof.RunKernelIdeal.RingBody

@[expose] public section

set_option synthInstance.maxSize 4096

noncomputable section

namespace Cert.Proof.RunKernelIdeal

open Idealize.ShloMosaic Idealize.SL Idealize.SL.RA Idealize.SL.BI Idealize.SL.BI.BIBase Idealize.SL.BI.Laws Idealize.SL.ProofMode Idealize.SL.Sem
open Idealize.ShloMosaic.Rounds (URounds Schedule dutyTok openTok reached atPos cellInv)
open Idealize.ShloMosaic.TcCoe Idealize.ShloMosaic.TalkSites Idealize.ShloMosaic.SiteBlocks
open scoped Idealize.SL.BI
open Cert.KernelIdeal Cert.KernelIdeal.Gen

variable {F : FTy → Type} [FloatOps F] {U : Type} [URA U]
local notation "𝕄" => MT nD τ sig ℕ (Elt F) ℕ U ℕ

section
variable (E : Recs F U) [E.LandsIn (upEmb : UEmb _ (MT nD τ sig ℕ (Elt F) ℕ U ℕ))] (Wt : Weights F) (κ : GSem nD τ sig → ℕ)

/-- A counter opened for the ring. -/
theorem open1 (c : Dev nD) {sm : SemLoc sig} (h : sm ∈ rDorm 0) :
    iprop(rI E Wt κ ∗ openTok E ((c : Thread nD τ), sm) ∗ semVal ((c : Thread nD τ), sm) 0)
      ⊢ (|={Set.univ}=> iprop(atPos E ((c : Thread nD τ), sm) 0 ∅ 0 ∗ reached E ((c : Thread nD τ), sm) 0) : sProp 𝕄) := by
  have hd : sm ∈ rFam.dorm 0 := List.mem_toFinset.mpr h
  iintro ⟨#HI, Ho, Hs⟩
  ihave Hc := (rFam.cellInvs_dorm E (rRd E Wt) κ c hd) $$ HI
  iapply (Rounds.cell_open E (rRd E Wt) (g := ((c : Thread nD τ), sm)) (Set.mem_univ (κ ((c : Thread nD τ), sm))))
  isplitl [Hc]; · iexact Hc
  isplitl [Ho] <;> iassumption

/-- A counter closed after its last round. -/
theorem close1 (c : Dev nD) {sm : SemLoc sig} (h : sm ∈ rDorm 0) {k : ℕ} (hk : rRounds sm ≤ k) :
    iprop(rI E Wt κ ∗ atPos E ((c : Thread nD τ), sm) k ∅ 0) ⊢ (|={Set.univ}=> semVal ((c : Thread nD τ), sm) 0 : sProp 𝕄) := by
  have hd : sm ∈ rFam.dorm 0 := List.mem_toFinset.mpr h
  have hl : ∀ r, k ≤ r → (rRd E Wt).duties ((c : Thread nD τ), sm) r = ∅ := fun r hr =>
    Sched.later rB rDorm rRows rRounds rHok (rPayload E Wt) ((c : Thread nD τ), sm) r (le_trans hk hr)
  iintro ⟨#HI, Ha⟩
  ihave Hc := (rFam.cellInvs_dorm E (rRd E Wt) κ c hd) $$ HI
  iapply (Rounds.cell_close E (rRd E Wt) (g := ((c : Thread nD τ), sm)) (Set.mem_univ (κ ((c : Thread nD τ), sm))) id hl)
  isplitl [Hc]; · iexact Hc
  iexact Ha

/-- No one pays the barrier a second time. -/
theorem bar_over (c : Dev nD) : (rRd E Wt).duties ((c.tc : Thread nD τ), rB) 1 = ∅ :=
  Sched.later rB rDorm rRows rRounds rHok (rPayload E Wt) ((c : Thread nD τ), rB) 1 (show rRounds rB ≤ 1 by decide +kernel)

/-- What the ring of one direction starts with, its buffer left out. -/
def DirRest (d : Bool) (c : Dev nD) : sProp 𝕄 :=
  iprop((PosS E d c 0 ∗ PosR E d c 0 ∗ PosC E d c 0) ∗ (Bun E d c 0 ∗ Bun E d c 1 ∗ Bun E d c 2 ∗ Bun E d c 3 ∗ Bun E d c 4 ∗ Bun E d c 5 ∗ Bun E d c 6)
    ∗ (TokC E d c 0 ∗ TokC E d c 1 ∗ TokC E d c 2 ∗ TokC E d c 3 ∗ TokC E d c 4 ∗ TokC E d c 5)
    ∗ (CredC d c 0 ∗ CredC d c 1 ∗ CredC d c 2 ∗ CredC d c 3 ∗ CredC d c 4 ∗ CredC d c 5))

theorem dirIn_eq (d : Bool) (c : Dev nD) : DirIn E d c = iprop((anyHalf d c 0 ∗ anyHalf d c 1) ∗ DirRest E d c) := rfl

/-- The rights to pay, one by one. -/
theorem toks_list (c : Dev nD) : (bigSepL (List.range rShape.length) (tokAt E rB (rDorm 0) rShape rPeer c) : sProp 𝕄)
      = iprop(dutyTok E ((dst true c : Thread nD τ), rB) 0 (c, 0)
        ∗ dutyTok E ((dst false c : Thread nD τ), rB) 0 (c, 1)
        ∗ dutyTok E ((dst false c : Thread nD τ), rC false (cur (0 + 1))) (0 / 2) (c, iR false 0)
        ∗ dutyTok E ((dst true c : Thread nD τ), rC true (cur (0 + 1))) (0 / 2) (c, iR true 0)
        ∗ dutyTok E ((dst (!false) c : Thread nD τ), cC false) 0 (c, iC false 0)
        ∗ dutyTok E ((dst (!true) c : Thread nD τ), cC true) 0 (c, iC true 0)
        ∗ dutyTok E ((dst false c : Thread nD τ), rC false (cur (1 + 1))) (1 / 2) (c, iR false 1)
        ∗ dutyTok E ((dst true c : Thread nD τ), rC true (cur (1 + 1))) (1 / 2) (c, iR true 1)
        ∗ dutyTok E ((dst (!false) c : Thread nD τ), cC false) 1 (c, iC false 1)
        ∗ dutyTok E ((dst (!true) c : Thread nD τ), cC true) 1 (c, iC true 1)
        ∗ dutyTok E ((dst false c : Thread nD τ), rC false (cur (2 + 1))) (2 / 2) (c, iR false 2)
        ∗ dutyTok E ((dst true c : Thread nD τ), rC true (cur (2 + 1))) (2 / 2) (c, iR true 2)
        ∗ dutyTok E ((dst (!false) c : Thread nD τ), cC false) 2 (c, iC false 2)
        ∗ dutyTok E ((dst (!true) c : Thread nD τ), cC true) 2 (c, iC true 2)
        ∗ dutyTok E ((dst false c : Thread nD τ), rC false (cur (3 + 1))) (3 / 2) (c, iR false 3)
        ∗ dutyTok E ((dst true c : Thread nD τ), rC true (cur (3 + 1))) (3 / 2) (c, iR true 3)
        ∗ dutyTok E ((dst (!false) c : Thread nD τ), cC false) 3 (c, iC false 3)
        ∗ dutyTok E ((dst (!true) c : Thread nD τ), cC true) 3 (c, iC true 3)
        ∗ dutyTok E ((dst false c : Thread nD τ), rC false (cur (4 + 1))) (4 / 2) (c, iR false 4)
        ∗ dutyTok E ((dst true c : Thread nD τ), rC true (cur (4 + 1))) (4 / 2) (c, iR true 4)
        ∗ dutyTok E ((dst (!false) c : Thread nD τ), cC false) 4 (c, iC false 4)
        ∗ dutyTok E ((dst (!true) c : Thread nD τ), cC true) 4 (c, iC true 4)
        ∗ dutyTok E ((dst false c : Thread nD τ), rC false (cur (5 + 1))) (5 / 2) (c, iR false 5)
        ∗ dutyTok E ((dst true c : Thread nD τ), rC true (cur (5 + 1))) (5 / 2) (c, iR true 5)
        ∗ dutyTok E ((dst (!false) c : Thread nD τ), cC false) 5 (c, iC false 5)
        ∗ dutyTok E ((dst (!true) c : Thread nD τ), cC true) 5 (c, iC true 5)
        ∗ dutyTok E ((dst false c : Thread nD τ), rC false (cur (6 + 1))) (6 / 2) (c, iR false 6)
        ∗ dutyTok E ((dst true c : Thread nD τ), rC true (cur (6 + 1))) (6 / 2) (c, iR true 6)
        ∗ dutyTok E ((c : Thread nD τ), sC false (cur 0)) (0 / 2) (c, iS false 0)
        ∗ dutyTok E ((c : Thread nD τ), sC true (cur 0)) (0 / 2) (c, iS true 0)
        ∗ dutyTok E ((c : Thread nD τ), sC false (cur 1)) (1 / 2) (c, iS false 1)
        ∗ dutyTok E ((c : Thread nD τ), sC true (cur 1)) (1 / 2) (c, iS true 1)
        ∗ dutyTok E ((c : Thread nD τ), sC false (cur 2)) (2 / 2) (c, iS false 2)
        ∗ dutyTok E ((c : Thread nD τ), sC true (cur 2)) (2 / 2) (c, iS true 2)
        ∗ dutyTok E ((c : Thread nD τ), sC false (cur 3)) (3 / 2) (c, iS false 3)
        ∗ dutyTok E ((c : Thread nD τ), sC true (cur 3)) (3 / 2) (c, iS true 3)
        ∗ dutyTok E ((c : Thread nD τ), sC false (cur 4)) (4 / 2) (c, iS false 4)
        ∗ dutyTok E ((c : Thread nD τ), sC true (cur 4)) (4 / 2) (c, iS true 4)
        ∗ dutyTok E ((c : Thread nD τ), sC false (cur 5)) (5 / 2) (c, iS false 5)
        ∗ dutyTok E ((c : Thread nD τ), sC true (cur 5)) (5 / 2) (c, iS true 5)
        ∗ dutyTok E ((c : Thread nD τ), sC false (cur 6)) (6 / 2) (c, iS false 6)
        ∗ dutyTok E ((c : Thread nD τ), sC true (cur 6)) (6 / 2) (c, iS true 6)) := rfl

omit [E.LandsIn (upEmb : UEmb _ (MT nD τ sig ℕ (Elt F) ℕ U ℕ))] in
/-- The credit, unit by unit. -/
theorem creds_list (c : Dev nD) : (bigSepL (List.range rDue.length) (credAt rB (rDorm 0) rDue c) : sProp 𝕄)
      = iprop(cred (tallyAt ((c : Thread nD τ), rB) 3 1)
        ∗ cred (tallyAt ((c : Thread nD τ), rB) 3 1)
        ∗ cred (tallyAt ((c : Thread nD τ), rC false (cur (0 + 1))) (4 + 2 * 0) N1)
        ∗ cred (tallyAt ((c : Thread nD τ), rC true (cur (0 + 1))) (4 + 2 * 0) N1)
        ∗ cred (tallyAt ((c : Thread nD τ), cC false) (5 + 2 * 0) 1)
        ∗ cred (tallyAt ((c : Thread nD τ), cC true) (5 + 2 * 0) 1)
        ∗ cred (tallyAt ((c : Thread nD τ), rC false (cur (1 + 1))) (4 + 2 * 1) N1)
        ∗ cred (tallyAt ((c : Thread nD τ), rC true (cur (1 + 1))) (4 + 2 * 1) N1)
        ∗ cred (tallyAt ((c : Thread nD τ), cC false) (5 + 2 * 1) 1)
        ∗ cred (tallyAt ((c : Thread nD τ), cC true) (5 + 2 * 1) 1)
        ∗ cred (tallyAt ((c : Thread nD τ), rC false (cur (2 + 1))) (4 + 2 * 2) N1)
        ∗ cred (tallyAt ((c : Thread nD τ), rC true (cur (2 + 1))) (4 + 2 * 2) N1)
        ∗ cred (tallyAt ((c : Thread nD τ), cC false) (5 + 2 * 2) 1)
        ∗ cred (tallyAt ((c : Thread nD τ), cC true) (5 + 2 * 2) 1)
        ∗ cred (tallyAt ((c : Thread nD τ), rC false (cur (3 + 1))) (4 + 2 * 3) N1)
        ∗ cred (tallyAt ((c : Thread nD τ), rC true (cur (3 + 1))) (4 + 2 * 3) N1)
        ∗ cred (tallyAt ((c : Thread nD τ), cC false) (5 + 2 * 3) 1)
        ∗ cred (tallyAt ((c : Thread nD τ), cC true) (5 + 2 * 3) 1)
        ∗ cred (tallyAt ((c : Thread nD τ), rC false (cur (4 + 1))) (4 + 2 * 4) N1)
        ∗ cred (tallyAt ((c : Thread nD τ), rC true (cur (4 + 1))) (4 + 2 * 4) N1)
        ∗ cred (tallyAt ((c : Thread nD τ), cC false) (5 + 2 * 4) 1)
        ∗ cred (tallyAt ((c : Thread nD τ), cC true) (5 + 2 * 4) 1)
        ∗ cred (tallyAt ((c : Thread nD τ), rC false (cur (5 + 1))) (4 + 2 * 5) N1)
        ∗ cred (tallyAt ((c : Thread nD τ), rC true (cur (5 + 1))) (4 + 2 * 5) N1)
        ∗ cred (tallyAt ((c : Thread nD τ), cC false) (5 + 2 * 5) 1)
        ∗ cred (tallyAt ((c : Thread nD τ), cC true) (5 + 2 * 5) 1)
        ∗ cred (tallyAt ((c : Thread nD τ), rC false (cur (6 + 1))) (4 + 2 * 6) N1)
        ∗ cred (tallyAt ((c : Thread nD τ), rC true (cur (6 + 1))) (4 + 2 * 6) N1)) := rfl

/-- The rights to open the counters, one by one. -/
theorem opens_list (Φ : SemLoc sig → sProp 𝕄) : bigSepL (rDorm 0) Φ
      = iprop(Φ (sC false 0) ∗ Φ (sC false 1) ∗ Φ (rC false 0) ∗ Φ (rC false 1) ∗ Φ (sC true 0) ∗ Φ (sC true 1) ∗ Φ (rC true 0) ∗ Φ (rC true 1) ∗ Φ (cC false) ∗ Φ (cC true)) := rfl

theorem mem_dorm : sC false 0 ∈ rDorm 0 ∧ sC false 1 ∈ rDorm 0 ∧ rC false 0 ∈ rDorm 0 ∧ rC false 1 ∈ rDorm 0 ∧ sC true 0 ∈ rDorm 0 ∧ sC true 1 ∈ rDorm 0 ∧ rC true 0 ∈ rDorm 0 ∧ rC true 1 ∈ rDorm 0 ∧ cC false ∈ rDorm 0 ∧ cC true ∈ rDorm 0 := by decide +kernel

/-- The counters opened: every position at round 0. -/
theorem open_all (c : Dev nD) :
    iprop(rI E Wt κ ∗ bigSepL (rDorm 0) (fun sm => openTok E ((c : Thread nD τ), sm)) ∗ bigSepL (rDorm 0) (fun sm => semVal ((c : Thread nD τ), sm) 0))
      ⊢ (|={Set.univ}=> iprop((PosS E false c 0 ∗ PosR E false c 0 ∗ PosC E false c 0) ∗ (PosS E true c 0 ∗ PosR E true c 0 ∗ PosC E true c 0)) : sProp 𝕄) := by
  obtain ⟨h0, h1, h2, h3, h4, h5, h6, h7, h8, h9⟩ := mem_dorm
  rw [opens_list, opens_list]
  iintro ⟨#HI, ⟨O0, O1, O2, O3, O4, O5, O6, O7, O8, O9⟩, ⟨S0, S1, S2, S3, S4, S5, S6, S7, S8, S9⟩⟩
  imod (open1 E Wt κ c h0) $$ [O0 S0] with ⟨A0, R0⟩
  · isplitr; · iexact HI
    isplitl [O0] <;> iassumption
  imod (open1 E Wt κ c h1) $$ [O1 S1] with ⟨A1, R1⟩
  · isplitr; · iexact HI
    isplitl [O1] <;> iassumption
  imod (open1 E Wt κ c h2) $$ [O2 S2] with ⟨A2, R2⟩
  · isplitr; · iexact HI
    isplitl [O2] <;> iassumption
  imod (open1 E Wt κ c h3) $$ [O3 S3] with ⟨A3, R3⟩
  · isplitr; · iexact HI
    isplitl [O3] <;> iassumption
  imod (open1 E Wt κ c h4) $$ [O4 S4] with ⟨A4, R4⟩
  · isplitr; · iexact HI
    isplitl [O4] <;> iassumption
  imod (open1 E Wt κ c h5) $$ [O5 S5] with ⟨A5, R5⟩
  · isplitr; · iexact HI
    isplitl [O5] <;> iassumption
  imod (open1 E Wt κ c h6) $$ [O6 S6] with ⟨A6, R6⟩
  · isplitr; · iexact HI
    isplitl [O6] <;> iassumption
  imod (open1 E Wt κ c h7) $$ [O7 S7] with ⟨A7, R7⟩
  · isplitr; · iexact HI
    isplitl [O7] <;> iassumption
  imod (open1 E Wt κ c h8) $$ [O8 S8] with ⟨A8, R8⟩
  · isplitr; · iexact HI
    isplitl [O8] <;> iassumption
  imod (open1 E Wt κ c h9) $$ [O9 S9] with ⟨A9, R9⟩
  · isplitr; · iexact HI
    isplitl [O9] <;> iassumption
  imodintro
  unfold PosS PosR PosC
  isplitl [A0 R0 A1 R1 A2 R2 A3 R3 A8 R8]
  · isplitl [A0 R0 A1 R1]
    · isplitl [A0]; · iexact A0
      isplitl [R0]; · iexact R0
      isplitl [A1]; · iexact A1
      iexact R1
    isplitl [A3 R3 A2 R2]
    · isplitl [A3]; · iexact A3
      isplitl [R3]; · iexact R3
      isplitl [A2]; · iexact A2
      iexact R2
    isplitl [A8]; · iexact A8
    iexact R8
  isplitl [A4 R4 A5 R5]
  · isplitl [A4]; · iexact A4
    isplitl [R4]; · iexact R4
    isplitl [A5]; · iexact A5
    iexact R5
  isplitl [A7 R7 A6 R6]
  · isplitl [A7]; · iexact A7
    isplitl [R7]; · iexact R7
    isplitl [A6]; · iexact A6
    iexact R6
  isplitl [A9]; · iexact A9
  iexact R9

/-- The counters closed: every one at zero. -/
theorem close_all (c : Dev nD) :
    iprop(rI E Wt κ ∗ (PosS E false c 7 ∗ PosR E false c 7 ∗ PosC E false c 6) ∗ (PosS E true c 7 ∗ PosR E true c 7 ∗ PosC E true c 6))
      ⊢ (|={Set.univ}=> bigSepL (rDorm 0) (fun sm => semVal ((c : Thread nD τ), sm) 0) : sProp 𝕄) := by
  obtain ⟨h0, h1, h2, h3, h4, h5, h6, h7, h8, h9⟩ := mem_dorm
  rw [opens_list]
  unfold PosS PosR PosC
  iintro ⟨#HI, ⟨⟨A1, -, A0, -⟩, ⟨A2, -, A3, -⟩, ⟨A8, -⟩⟩, ⟨⟨A5, -, A4, -⟩, ⟨A6, -, A7, -⟩, ⟨A9, -⟩⟩⟩
  imod (close1 E Wt κ c h0 (k := 4) (by decide +kernel)) $$ [A0] with S0
  · isplitr; · iexact HI
    iexact A0
  imod (close1 E Wt κ c h1 (k := 3) (by decide +kernel)) $$ [A1] with S1
  · isplitr; · iexact HI
    iexact A1
  imod (close1 E Wt κ c h2 (k := 3) (by decide +kernel)) $$ [A2] with S2
  · isplitr; · iexact HI
    iexact A2
  imod (close1 E Wt κ c h3 (k := 4) (by decide +kernel)) $$ [A3] with S3
  · isplitr; · iexact HI
    iexact A3
  imod (close1 E Wt κ c h4 (k := 4) (by decide +kernel)) $$ [A4] with S4
  · isplitr; · iexact HI
    iexact A4
  imod (close1 E Wt κ c h5 (k := 3) (by decide +kernel)) $$ [A5] with S5
  · isplitr; · iexact HI
    iexact A5
  imod (close1 E Wt κ c h6 (k := 3) (by decide +kernel)) $$ [A6] with S6
  · isplitr; · iexact HI
    iexact A6
  imod (close1 E Wt κ c h7 (k := 4) (by decide +kernel)) $$ [A7] with S7
  · isplitr; · iexact HI
    iexact A7
  imod (close1 E Wt κ c h8 (k := 6) (by decide +kernel)) $$ [A8] with S8
  · isplitr; · iexact HI
    iexact A8
  imod (close1 E Wt κ c h9 (k := 6) (by decide +kernel)) $$ [A9] with S9
  · isplitr; · iexact HI
    iexact A9
  imodintro
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iexact S9

/-- Everything a device starts the ring with, out of what the launch and the opened counters give it. -/
theorem deal (c : Dev nD) :
    iprop(atPos E ((c : Thread nD τ), rB) 0 ∅ 0 ∗ (reached E ((dst true c : Thread nD τ), rB) 0 ∗ reached E ((dst false c : Thread nD τ), rB) 0)
      ∗ ((PosS E false c 0 ∗ PosR E false c 0 ∗ PosC E false c 0) ∗ (PosS E true c 0 ∗ PosR E true c 0 ∗ PosC E true c 0))
      ∗ bigSepL (List.range rShape.length) (tokAt E rB (rDorm 0) rShape rPeer c) ∗ bigSepL (List.range rDue.length) (credAt rB (rDorm 0) rDue c))
      ⊢ (iprop(BarIn E c ∗ DirRest E false c ∗ DirRest E true c) : sProp 𝕄) := by
  rw [toks_list, creds_list]
  iintro ⟨Hat, ⟨Hr1, Hr0⟩, ⟨Pf, Pt⟩, ⟨Hb0, Hb1, TfR0, TtR0, TfC0, TtC0, TfR1, TtR1, TfC1, TtC1, TfR2, TtR2, TfC2, TtC2, TfR3, TtR3, TfC3, TtC3, TfR4, TtR4, TfC4, TtC4, TfR5, TtR5, TfC5, TtC5, TfR6, TtR6, TfS0, TtS0, TfS1, TtS1, TfS2, TtS2, TfS3, TtS3, TfS4, TtS4, TfS5, TtS5, TfS6, TtS6⟩, ⟨Kb0, Kb1, KfR0, KtR0, KfC0, KtC0, KfR1, KtR1, KfC1, KtC1, KfR2, KtR2, KfC2, KtC2, KfR3, KtR3, KfC3, KtC3, KfR4, KtR4, KfC4, KtC4, KfR5, KtR5, KfC5, KtC5, KfR6, KtR6⟩⟩
  isplitl [Hat Hr1 Hr0 Kb0 Kb1 Hb0 Hb1]
  · unfold BarIn
    isplitl [Hat]; · iexact Hat
    isplitl [Hr1]; · iexact Hr1
    isplitl [Hr0]; · iexact Hr0
    isplitl [Kb0 Kb1]
    · rw [show (tallyAt ((c : Thread nD τ), rB) 3 2 : CellTallies nD τ sig ℕ) = tallyAt ((c : Thread nD τ), rB) 3 1 + tallyAt ((c : Thread nD τ), rB) 3 1 from (tallyAt_add _ _ 1 1).symm]
      iapply (cred_add _ _).2
      isplitl [Kb0] <;> iassumption
    isplitl [Hb0]; · iexact Hb0
    iexact Hb1
  isplitl [Pf TfR0 TfR1 TfR2 TfR3 TfR4 TfR5 TfR6 TfS0 TfS1 TfS2 TfS3 TfS4 TfS5 TfS6 TfC0 TfC1 TfC2 TfC3 TfC4 TfC5 KfR0 KfR1 KfR2 KfR3 KfR4 KfR5 KfR6 KfC0 KfC1 KfC2 KfC3 KfC4 KfC5]
  · unfold DirRest
    isplitl [Pf]; · iexact Pf
    isplitl [TfR0 TfS0 KfR0 TfR1 TfS1 KfR1 TfR2 TfS2 KfR2 TfR3 TfS3 KfR3 TfR4 TfS4 KfR4 TfR5 TfS5 KfR5 TfR6 TfS6 KfR6]
    · isplitl [TfR0 TfS0 KfR0]
      · unfold Bun
        isplitl [TfR0]; · iexact TfR0
        isplitl [TfS0]; · iexact TfS0
        iexact KfR0
      isplitl [TfR1 TfS1 KfR1]
      · unfold Bun
        isplitl [TfR1]; · iexact TfR1
        isplitl [TfS1]; · iexact TfS1
        iexact KfR1
      isplitl [TfR2 TfS2 KfR2]
      · unfold Bun
        isplitl [TfR2]; · iexact TfR2
        isplitl [TfS2]; · iexact TfS2
        iexact KfR2
      isplitl [TfR3 TfS3 KfR3]
      · unfold Bun
        isplitl [TfR3]; · iexact TfR3
        isplitl [TfS3]; · iexact TfS3
        iexact KfR3
      isplitl [TfR4 TfS4 KfR4]
      · unfold Bun
        isplitl [TfR4]; · iexact TfR4
        isplitl [TfS4]; · iexact TfS4
        iexact KfR4
      isplitl [TfR5 TfS5 KfR5]
      · unfold Bun
        isplitl [TfR5]; · iexact TfR5
        isplitl [TfS5]; · iexact TfS5
        iexact KfR5
      unfold Bun
      isplitl [TfR6]; · iexact TfR6
      isplitl [TfS6]; · iexact TfS6
      iexact KfR6
    isplitl [TfC0 TfC1 TfC2 TfC3 TfC4 TfC5]
    · unfold TokC
      isplitl [TfC0]; · iexact TfC0
      isplitl [TfC1]; · iexact TfC1
      isplitl [TfC2]; · iexact TfC2
      isplitl [TfC3]; · iexact TfC3
      isplitl [TfC4]; · iexact TfC4
      iexact TfC5
    unfold CredC
    isplitl [KfC0]; · iexact KfC0
    isplitl [KfC1]; · iexact KfC1
    isplitl [KfC2]; · iexact KfC2
    isplitl [KfC3]; · iexact KfC3
    isplitl [KfC4]; · iexact KfC4
    iexact KfC5
  unfold DirRest
  isplitl [Pt]; · iexact Pt
  isplitl [TtR0 TtS0 KtR0 TtR1 TtS1 KtR1 TtR2 TtS2 KtR2 TtR3 TtS3 KtR3 TtR4 TtS4 KtR4 TtR5 TtS5 KtR5 TtR6 TtS6 KtR6]
  · isplitl [TtR0 TtS0 KtR0]
    · unfold Bun
      isplitl [TtR0]; · iexact TtR0
      isplitl [TtS0]; · iexact TtS0
      iexact KtR0
    isplitl [TtR1 TtS1 KtR1]
    · unfold Bun
      isplitl [TtR1]; · iexact TtR1
      isplitl [TtS1]; · iexact TtS1
      iexact KtR1
    isplitl [TtR2 TtS2 KtR2]
    · unfold Bun
      isplitl [TtR2]; · iexact TtR2
      isplitl [TtS2]; · iexact TtS2
      iexact KtR2
    isplitl [TtR3 TtS3 KtR3]
    · unfold Bun
      isplitl [TtR3]; · iexact TtR3
      isplitl [TtS3]; · iexact TtS3
      iexact KtR3
    isplitl [TtR4 TtS4 KtR4]
    · unfold Bun
      isplitl [TtR4]; · iexact TtR4
      isplitl [TtS4]; · iexact TtS4
      iexact KtR4
    isplitl [TtR5 TtS5 KtR5]
    · unfold Bun
      isplitl [TtR5]; · iexact TtR5
      isplitl [TtS5]; · iexact TtS5
      iexact KtR5
    unfold Bun
    isplitl [TtR6]; · iexact TtR6
    isplitl [TtS6]; · iexact TtS6
    iexact KtR6
  isplitl [TtC0 TtC1 TtC2 TtC3 TtC4 TtC5]
  · unfold TokC
    isplitl [TtC0]; · iexact TtC0
    isplitl [TtC1]; · iexact TtC1
    isplitl [TtC2]; · iexact TtC2
    isplitl [TtC3]; · iexact TtC3
    isplitl [TtC4]; · iexact TtC4
    iexact TtC5
  unfold CredC
  isplitl [KtC0]; · iexact KtC0
  isplitl [KtC1]; · iexact KtC1
  isplitl [KtC2]; · iexact KtC2
  isplitl [KtC3]; · iexact KtC3
  isplitl [KtC4]; · iexact KtC4
  iexact KtC5

/-- What the program's launch leaves with a device for the ring. -/
abbrev nbs (c : Dev nD) : Finset (Dev nD) := {dst true c, dst false c}
abbrev dues (d : Dev nD) : CellTallies nD τ sig ℕ := tallyL (duesR rB (rDorm 0) (rowsS rDue rPeer d))
def Tk (c : Dev nD) : sProp 𝕄 := iprop(Pipeline.launchCred dues c ∗ rFam.launched E (rRd E Wt) nbs c)
/-- What a device has of the ring's records when its counters are open. -/
def Xk (c : Dev nD) : sProp 𝕄 := iprop(∃ κ, rI E Wt κ ∗ levAts (L 20) lv ∗ BarIn E c ∗ DirRest E false c ∗ DirRest E true c)

theorem dst_ne (c : Dev nD) : dst true c ≠ dst false c := by revert c; decide +kernel
theorem dorm_nodup : (rDorm 0).Nodup := by decide +kernel

theorem hopen0 (c : Dev nD) :
    iprop(Tk E Wt c ∗ bigSepL (rDorm 0) (fun sm => semVal ((c : Thread nD τ), sm) 0) ∗ levAts (L 20) lv) ⊢ (|={Set.univ}=> Xk E Wt c : sProp 𝕄) := by
  unfold Tk Xk Fam.launched Fam.barPos
  rw [show (Finset.univ : Finset (Fin 1)) = {0} from rfl, BI.bigSep_singleton, Fam.rides_ofRows rB rDorm rRows rHsem rHrow E (rRd E Wt) c 0 dorm_nodup]
  rw [BI.bigSep_insert (by rw [Finset.mem_singleton]; exact dst_ne c), BI.bigSep_singleton]
  rw [show (bigSepL (rRows c 0).zipIdx fun x => dutyTok E (cellN rB (rDorm 0) x.1.1 x.1.2.1) x.1.2.2.1 (c, x.2) : sProp 𝕄)
      = bigSepL (List.range rShape.length) (tokAt E rB (rDorm 0) rShape rPeer c) from toks_split E rB (rDorm 0) rShape rPeer c,
    show (Pipeline.launchCred dues c : sProp 𝕄) = bigSepL (List.range rDue.length) (credAt rB (rDorm 0) rDue c) from creds_split rB rDorm rDue rPeer rInv rHinvDue c]
  rw [show (BI.sep (reached E ((dst true c : Thread nD τ), rFam.bar) 0) (reached E ((dst false c : Thread nD τ), rFam.bar) 0) : sProp 𝕄)
      = iprop(reached E ((dst true c : Thread nD τ), rB) 0 ∗ reached E ((dst false c : Thread nD τ), rB) 0) from rfl]
  iintro ⟨⟨Hcr, ⟨⟨%κ, #HI⟩, Hat, Hr1, Hr0⟩, -, Ho, Ht⟩, Hs, #HL⟩
  imod (open_all E Wt κ c) $$ [Ho Hs] with HP
  · isplitr; · iexact HI
    isplitl [Ho] <;> iassumption
  imodintro
  iexists κ
  isplitr; · iexact HI
  isplitr; · iexact HL
  iapply (deal E c)
  isplitl [Hat]; · iexact Hat
  isplitl [Hr1 Hr0]
  · isplitl [Hr1]; · iexact Hr1
    iexact Hr0
  isplitl [HP]; · iexact HP
  isplitl [Ht]; · iexact Ht
  iexact Hcr
end

end Cert.Proof.RunKernelIdeal
-- ==== Proof.RunKernelIdeal.Launch.lean ====
/- The ring's launch: the windows' contents, the two ring buffers as halves, the kernel call as a segment of the program, and the run of the whole program. -/
module

public import proofs.«01_k».proof.Proof.RunKernelIdeal.Deal
public import proofs.«01_k».proof.Proof.Gen.KernelIdeal.Regions
public import proofs.«01_k».proof.Proof.Gen.KernelIdeal.Points
public import Idealize.ShloMosaic.Lib.Pipeline.RegionTalk

@[expose] public section

set_option synthInstance.maxSize 4096

noncomputable section

namespace Cert.Proof.RunKernelIdeal

open Idealize.ShloMosaic Idealize.SL Idealize.SL.RA Idealize.SL.BI Idealize.SL.BI.BIBase Idealize.SL.BI.Laws Idealize.SL.ProofMode Idealize.SL.Sem
open Idealize.ShloMosaic.Rounds (URounds Schedule dutyTok openTok reached atPos cellInv launchOf initOf)
open Idealize.ShloMosaic.TcCoe Idealize.ShloMosaic.TalkSites Idealize.ShloMosaic.SiteBlocks
open Idealize.ShloMosaic.Pipeline (Dat Seg HostSeg RegionSeg BodyObligation)
open scoped Idealize.SL.BI
open Cert.KernelIdeal Cert.KernelIdeal.Gen

variable {F : FTy → Type} [FloatOps F]

/-- A family of pairs over all devices is two families, -/
theorem pairs_apart {ι M : Type} [Fintype ι] [URA M] {Φ Ψ : ι → sProp M} :
    bigSep Finset.univ (fun c => iprop(Φ c ∗ Ψ c)) ⊢ iprop(bigSep Finset.univ Φ ∗ bigSep Finset.univ Ψ) := Entails.of_eq (bigSep_sep _ _ _)
/-- and two families are a family of pairs. -/
theorem pairs_together {ι M : Type} [Fintype ι] [URA M] {Φ Ψ : ι → sProp M} :
    iprop(bigSep Finset.univ Φ ∗ bigSep Finset.univ Ψ) ⊢ bigSep Finset.univ (fun c => iprop(Φ c ∗ Ψ c)) := Entails.of_eq (bigSep_sep _ _ _).symm

/-! ## A ring buffer as its two halves -/

section Halves
variable {U : Type} [URA U]
local notation "𝕄" => MT nD τ sig ℕ (Elt F) ℕ U ℕ

theorem mem_half (b : Fin 2) (i : S2x1024x1024.Idx) : i ∈ (halfR b).set ↔ (i 0).val = b.val := by
  rw [Rect.mem_set_unit]
  constructor
  · intro h
    have h0 := h 0
    have e : (![b.val, 0, 0] : Fin 3 → ℕ) 0 = b.val := rfl
    have e' : S1x1024x1024.size 0 = 1 := rfl
    have h1 : b.val ≤ (i 0).val := h0.1
    have h2 : (i 0).val < b.val + 1 := h0.2
    omega
  · intro h a
    match a with
    | ⟨0, _⟩ => exact ⟨(show b.val ≤ (i 0).val by omega), (show (i 0).val < b.val + 1 by omega)⟩
    | ⟨1, _⟩ => exact ⟨Nat.zero_le _, (show (i 1).val < 0 + 1024 by have h1 : (i 1).val < 1024 := (i 1).isLt; omega)⟩
    | ⟨2, _⟩ => exact ⟨Nat.zero_le _, (show (i 2).val < 0 + 1024 by have h1 : (i 2).val < 1024 := (i 2).isLt; omega)⟩

theorem halves_disjoint (d : Bool) : Disjoint (halfM d 0).view.set (halfM d 1).view.set := by
  rw [half_set, half_set]
  refine (Finset.disjoint_map _).mpr (Finset.disjoint_left.mpr fun i h0 h1 => ?_)
  rw [mem_half] at h0 h1
  have e0 : (i 0).val = 0 := h0
  have e1 : (i 0).val = 1 := h1
  omega

theorem halves_union (d : Bool) : (halfM d 0).view.set ∪ (halfM d 1).view.set = (ringBuf d).view.set := by
  rw [half_set, half_set]
  have e : (halfR 0).set ∪ (halfR 1).set = (Finset.univ : Finset S2x1024x1024.Idx) := by
    refine Finset.eq_univ_of_forall fun i => ?_
    rw [Finset.mem_union, mem_half, mem_half]
    have h : (i 0).val < 2 := (i 0).isLt
    have e0 : ((0 : Fin 2).val) = 0 := rfl
    have e1 : ((1 : Fin 2).val) = 1 := rfl
    omega
  exact (Finset.map_union _ _).symm.trans (congrArg (Finset.map (ringBuf d).view.emb) e)

theorem ring_set (d : Bool) : (ringBuf d).view.set = Finset.univ := by
  cases d <;> exact View.set_whole _

theorem halves_split (d : Bool) (c : Dev nD) (f : Buf (Elt F) ((ringBuf d).view.loc (c : Thread nD τ))) :
    ((ringBuf d).view.loc (c : Thread nD τ) ↦{fullShare} f : sProp 𝕄) ⊢ iprop(anyHalf d c 0 ∗ anyHalf d c 1) := by
  have h : ((ringBuf d).view.loc (c : Thread nD τ) ↦{fullShare} f : sProp 𝕄)
      ⊢ iprop(((ringBuf d).view.loc (c : Thread nD τ) ↦[(halfM d 0).view.set]{fullShare} f) ∗ ((ringBuf d).view.loc (c : Thread nD τ) ↦[(halfM d 1).view.set]{fullShare} f)) := by
    refine BIBase.Entails.trans (Entails.of_eq ?_) (pointsTo_union (halves_disjoint d)).1
    rw [halves_union, ring_set]
  refine BIBase.Entails.trans h ?_
  unfold anyHalf owns
  iintro ⟨H0, H1⟩
  isplitl [H0]
  · iexists ((halfM d 0).view.read (Elt F) f); iexists f; isplitr
    · ipureintro; rfl
    iexact H0
  · iexists ((halfM d 1).view.read (Elt F) f); iexists f; isplitr
    · ipureintro; rfl
    iexact H1

theorem halves_join (d : Bool) (c : Dev nD) :
    iprop(anyHalf d c 0 ∗ anyHalf d c 1) ⊢ (iprop(∃ f : Buf (Elt F) ((ringBuf d).view.loc (c : Thread nD τ)), (ringBuf d).view.loc (c : Thread nD τ) ↦{fullShare} f) : sProp 𝕄) := by
  have h (f g : Buf (Elt F) ((ringBuf d).view.loc (c : Thread nD τ))) :
      iprop(((ringBuf d).view.loc (c : Thread nD τ) ↦[(halfM d 0).view.set]{fullShare} f) ∗ ((ringBuf d).view.loc (c : Thread nD τ) ↦[(halfM d 1).view.set]{fullShare} g))
        ⊢ (iprop(∃ f : Buf (Elt F) ((ringBuf d).view.loc (c : Thread nD τ)), (ringBuf d).view.loc (c : Thread nD τ) ↦{fullShare} f) : sProp 𝕄) := by
    refine BIBase.Entails.trans (pointsTo_join (halves_disjoint d)) ?_
    rw [halves_union, ring_set]
    iintro H
    iexists _; iexact H
  unfold anyHalf owns
  iintro ⟨⟨%X, %f, -, H0⟩, ⟨%Y, %g, -, H1⟩⟩
  iapply (h f g)
  isplitl [H0]; · iexact H0
  iexact H1
end Halves

/-! ## The call's windows -/

abbrev UU : Type := UR sig nD τ × URounds (GSem nD τ sig) (Dev nD × ℕ)
local notation "𝕄" => MT nD τ sig ℕ (Elt F) ℕ UU ℕ

abbrev EP : Emb (UR sig nD τ) (MT nD τ sig ℕ (Elt F) ℕ UU ℕ) := embL
abbrev ER : Recs F UU := embR

section Launch
variable (m : (ℓ : Loc nD τ sig) → Buf (Elt F) ℓ) (ρ : Dev nD → PrngReg)

/-- The windowed arrays under an assignment of contents to the device's buffers. -/
def arrOf (V : Valuation τ sig (Elt F)) (c : Dev nD) (w : Fin 5) : Buf (Elt F) ((cfg0.win w).arr.view.loc (c.tc : Thread nD τ)) := V (Proc.devRef .tc (Pipeline.arrRef spec0 w))
theorem arrOf_0 (V : Valuation τ sig (Elt F)) (c : Dev nD) : arrOf V c 0 = V main_arg0 := rfl
theorem arrOf_1 (V : Valuation τ sig (Elt F)) (c : Dev nD) : arrOf V c 1 = V main_v47 := rfl
theorem arrOf_2 (V : Valuation τ sig (Elt F)) (c : Dev nD) : arrOf V c 2 = V main_v49 := rfl
theorem arrOf_3 (V : Valuation τ sig (Elt F)) (c : Dev nD) : arrOf V c 3 = V main_v51 := rfl
/-- What the call's windowed arrays hold when it starts. -/
def arr0 (c : Dev nD) (w : Fin 5) : Buf (Elt F) ((cfg0.win w).arr.view.loc (c.tc : Thread nD τ)) := arrOf (V7 m c) c w
/-- The same as the operands' blocks: the tokens, the mask and each device's two weight matrices. -/
def Xin (c : Dev nD) : S1024x512.Idx → Elt F .bf16 := ((cfg0.win 0).blk t0_0).view.read (Elt F) (arr0 m c 0)
def Ain (c : Dev nD) : S1024x32.Idx → Elt F .bf16 := ((cfg0.win 1).blk t0_0).view.read (Elt F) (arr0 m c 1)
def Win : Weights F
  | false, c => ((cfg0.win 2).blk t0_0).view.read (Elt F) (arr0 m c 2)
  | true, c => ((cfg0.win 3).blk t0_0).view.read (Elt F) (arr0 m c 3)

/-- The call's own counters. -/
def osem0 : Fin 10 → SemLoc sig
  | 0 => sC false 0 | 1 => sC false 1 | 2 => rC false 0 | 3 => rC false 1 | 4 => sC true 0 | 5 => sC true 1 | 6 => rC true 0 | 7 => rC true 1 | 8 => cC false | 9 => cC true
  | ⟨_ + 10, h⟩ => absurd h (Nat.not_lt.2 (Nat.le_add_left _ _))

theorem ownSems0_eq (c : Dev nD) : (Pipeline.ownSems0 osem0 c : sProp 𝕄) = bigSepL (rDorm 0) (fun sm => semVal ((c : Thread nD τ), sm) 0) := by
  unfold Pipeline.ownSems0
  rw [BI.bigSep_univ_eq_bigSepL [0, 1, 2, 3, 4, 5, 6, 7, 8, 9] (by decide) (by decide)]
  rfl

/-- What a device has of the barrier after the ring. -/
def Yk (c : Dev nD) : sProp 𝕄 := rFam.barPos ER (rRd ER (Win m)) c 1 ∅

def dat0 (c : Dev nD) : Dat τ (Elt F) ℕ ℕ UU ℕ cfg0 c where
  A w := arr0 m c w
  after w _ := match w with
    | 0 => Xin m c
    | 1 => Ain m c
    | 2 => Win m false c
    | 3 => Win m true c
    | 4 => sumTo (Win m) (Xin m c) (Ain m c) c 7
    | ⟨_ + 5, h⟩ => absurd h (Nat.not_lt.2 (Nat.le_add_left _ _))
  Φ t := if t.val = 0 then iprop(Pipeline.scopedRest spec0 c ∗ (∃ r, prngReg c r) ∗ Xk ER (Win m) c)
    else iprop(Pipeline.scopedRest spec0 c ∗ (∃ r, prngReg c r) ∗ Pipeline.ownSems0 osem0 c ∗ Yk m c)
  q _ := fullShare
  owed t := if t.val = 0 then 0 + dues c else 0

def pdats : (p : Fin 1) → (c : Dev nD) → Dat τ (Elt F) ℕ ℕ UU ℕ (cfgs p) c
  | 0 => dat0 m

theorem owed_first (c : Dev nD) : (dat0 m c).owed t0_0.castSucc = rOwed c 0 := by
  show (if ((t0_0.castSucc : Fin (cfg0.N + 1)).val = 0) then 0 + dues c else 0) = _
  rw [if_pos (show (t0_0.castSucc : Fin (cfg0.N + 1)).val = 0 from rfl)]
  exact (addL_eq 0 _).symm
theorem owed_zero (c : Dev nD) : (dat0 m c).owed 0 = 0 + dues c := by
  show (if ((0 : Fin (cfg0.N + 1)).val = 0) then 0 + dues c else 0) = _
  exact if_pos rfl
theorem owed_after (c : Dev nD) : (dat0 m c).owed t0_0.succ = 0 := by
  show (if ((t0_0.succ : Fin (cfg0.N + 1)).val = 0) then 0 + dues c else 0) = _
  exact if_neg (by rw [Fin.val_succ]; exact Nat.succ_ne_zero _)
theorem owed_last (c : Dev nD) : (dat0 m c).owed (Fin.last cfg0.N) = 0 := by
  show (if ((Fin.last cfg0.N).val = 0) then 0 + dues c else 0) = _
  rw [Fin.val_last, if_neg (by rw [show cfg0.N = 1 from N_0]; decide)]

/-! ## The body -/

theorem before0 (c : Dev nD) (d) : (dat0 m c).before 0 t0_0 d = Xin m c := by
  rw [Pipeline.Dat.before_fetched _ _ _ (fetch0_0 _)]; rfl
theorem before1 (c : Dev nD) (d) : (dat0 m c).before 1 t0_0 d = Ain m c := by
  rw [Pipeline.Dat.before_fetched _ _ _ (fetch0_1 _)]; rfl
theorem before2 (c : Dev nD) (d) : (dat0 m c).before 2 t0_0 d = Win m false c := by
  rw [Pipeline.Dat.before_fetched _ _ _ (fetch0_2 _)]; rfl
theorem before3 (c : Dev nD) (d) : (dat0 m c).before 3 t0_0 d = Win m true c := by
  rw [Pipeline.Dat.before_fetched _ _ _ (fetch0_3 _)]; rfl

theorem wp_body (c : Dev nD) (Y : Vec F S1024x1024 .f32) :
    iprop((Pipeline.scopedRest spec0 c ∗ (∃ r, prngReg c r) ∗ Xk ER (Win m) c) ∗ (dat0 m c).owesAt 0 t0_0.castSucc
        ∗ owns (c : Thread nD τ) (win0_0.stage (cfg0.slots t0_0 0)) fullShare (Xin m c) ∗ owns (c : Thread nD τ) (win0_1.stage (cfg0.slots t0_0 1)) fullShare (Ain m c)
        ∗ owns (c : Thread nD τ) (win0_2.stage (cfg0.slots t0_0 2)) fullShare (Win m false c) ∗ owns (c : Thread nD τ) (win0_3.stage (cfg0.slots t0_0 3)) fullShare (Win m true c)
        ∗ owns (c : Thread nD τ) (win0_4.stage (cfg0.slots t0_0 4)) fullShare Y)
      ⊢ wp frame (wpE (defs₀ (F := F)) 𝒱₀ (c : Thread nD τ) none) Set.univ (bodyAt0 (F := F) t0_0) (fun _ =>
        (iprop((Pipeline.scopedRest spec0 c ∗ (∃ r, prngReg c r) ∗ Pipeline.ownSems0 osem0 c ∗ Yk m c) ∗ (dat0 m c).owesAt 0 t0_0.succ
        ∗ owns (c : Thread nD τ) (win0_0.stage (cfg0.slots t0_0 0)) fullShare (Xin m c) ∗ owns (c : Thread nD τ) (win0_1.stage (cfg0.slots t0_0 1)) fullShare (Ain m c)
        ∗ owns (c : Thread nD τ) (win0_2.stage (cfg0.slots t0_0 2)) fullShare (Win m false c) ∗ owns (c : Thread nD τ) (win0_3.stage (cfg0.slots t0_0 3)) fullShare (Win m true c)
        ∗ owns (c : Thread nD τ) (win0_4.stage (cfg0.slots t0_0 4)) fullShare (sumTo (Win m) (Xin m c) (Ain m c) c 7)) : sProp 𝕄)) := by
  rw [show bodyAt0 (F := F) t0_0 = _ from ring_eq (win0_0.stage (cfg0.slots t0_0 0)) (hstage0_0 0) (win0_1.stage (cfg0.slots t0_0 1)) (hstage0_1 0) (win0_2.stage (cfg0.slots t0_0 2)) (hstage0_2 0)
    (win0_3.stage (cfg0.slots t0_0 3)) (hstage0_3 0) (win0_4.stage (cfg0.slots t0_0 4)) (hstage0_4 0)]
  refine BIBase.Entails.trans ?_ (wpR_fupd c _ _)
  rw [scopedRest0_eq]
  unfold Xk
  iintro ⟨⟨⟨⟨%f0, Hf⟩, ⟨%f1, Ht⟩⟩, Hp, ⟨%κ, #HI, #HL, HB, HDf, HDt⟩⟩, HO, Hx, Ha, Hw, Hw', Hy⟩
  ihave HO' := (owesAt_elim (dat0 m c) 0 _ (rOwed c 0) (owed_first m c)) $$ HO
  ihave Hf' := (show ((c : Thread nD τ).loc cc0_scratch0 ↦{fullShare} f0 : sProp 𝕄) ⊢ iprop(anyHalf false c 0 ∗ anyHalf false c 1) from halves_split false c f0) $$ Hf
  ihave Ht' := (show ((c : Thread nD τ).loc cc0_scratch1 ↦{fullShare} f1 : sProp 𝕄) ⊢ iprop(anyHalf true c 0 ∗ anyHalf true c 1) from halves_split true c f1) $$ Ht
  iapply (ring_run ER (Win m) κ (win0_0.stage (cfg0.slots t0_0 0)) (win0_1.stage (cfg0.slots t0_0 1)) (win0_2.stage (cfg0.slots t0_0 2)) (win0_3.stage (cfg0.slots t0_0 3)) (win0_4.stage (cfg0.slots t0_0 4))
    (Xin m c) (Ain m c) c Y) $$ [HB HDf HDt HO' Hf' Ht' Hx Ha Hw Hw' Hy]
  · isplitr; · iexact HI
    isplitr; · iexact HL
    isplitl [HO']; · unfold Owes; iexact HO'
    isplitl [HB]; · iexact HB
    isplitl [Hf' HDf]
    · rw [dirIn_eq]
      isplitl [Hf']; · iexact Hf'
      iexact HDf
    isplitl [Ht' HDt]
    · rw [dirIn_eq]
      isplitl [Ht']; · iexact Ht'
      iexact HDt
    isplitl [Hx Ha Hy]
    · unfold Args
      isplitl [Hx]; · iexact Hx
      isplitl [Ha]; · iexact Ha
      iexact Hy
    isplitl [Hw]; · iexact Hw
    iexact Hw'
  unfold DirOut Args Owes
  iintro ⟨⟨%W, HO⟩, Hat, ⟨Hf, Pf⟩, ⟨Ht, Pt⟩, ⟨Hx, Ha, Hy⟩, Hw, Hw'⟩
  imod (close_all ER (Win m) κ c) $$ [Pf Pt] with HS
  · isplitr; · iexact HI
    isplitl [Pf] <;> iassumption
  ihave Hf' := (show iprop(anyHalf false c 0 ∗ anyHalf false c 1) ⊢ (iprop(∃ f : Buf (Elt F) ((c : Thread nD τ).loc cc0_scratch0), (c : Thread nD τ).loc cc0_scratch0 ↦{fullShare} f) : sProp 𝕄) from halves_join false c) $$ Hf
  ihave Ht' := (show iprop(anyHalf true c 0 ∗ anyHalf true c 1) ⊢ (iprop(∃ f : Buf (Elt F) ((c : Thread nD τ).loc cc0_scratch1), (c : Thread nD τ).loc cc0_scratch1 ↦{fullShare} f) : sProp 𝕄) from halves_join true c) $$ Ht
  imodintro
  isplitl [Hf' Ht' Hp HS Hat]
  · isplitl [Hf' Ht']
    · isplitl [Hf']; · iexact Hf'
      iexact Ht'
    isplitl [Hp]; · iexact Hp
    isplitl [HS]
    · rw [ownSems0_eq]; iexact HS
    unfold Yk Fam.barPos
    rw [BI.bigSep_empty]
    isplitr
    · iexists κ; iexact HI
    isplitl [Hat]; · iexact Hat
    iempintro
  isplitl [HO]
  · iapply (owesAt_intro (dat0 m c) 0 t0_0.succ 0 (owed_after m c) rfl W)
    iexact HO
  isplitl [Hx]; · iexact Hx
  isplitl [Ha]; · iexact Ha
  isplitl [Hw]; · iexact Hw
  isplitl [Hw']; · iexact Hw'
  iexact Hy

set_option maxRecDepth 20000 in
theorem body (c : Dev nD) : BodyObligation (dat0 m c) (defs₀ (F := F)) 𝒱₀ 0 Set.univ := fun t => by
  obtain rfl := fin_N0 t
  rewrite [bigSep_W0, bigSep_W0]
  rewrite [show (dat0 m c).Φ t0_0.castSucc = iprop(Pipeline.scopedRest spec0 c ∗ (∃ r, prngReg c r) ∗ Xk ER (Win m) c) from rfl,
    show (dat0 m c).Φ t0_0.succ = iprop(Pipeline.scopedRest spec0 c ∗ (∃ r, prngReg c r) ∗ Pipeline.ownSems0 osem0 c ∗ Yk m c) from rfl]
  show _ ⊢ wp frame (wpE (defs₀ (F := F)) 𝒱₀ (c : Thread nD τ) none) Set.univ (bodyAt0 (F := F) t0_0) _
  iintro ⟨HΦ, HO, ⟨%d0, H0⟩, ⟨%d1, H1⟩, ⟨%d2, H2⟩, ⟨%d3, H3⟩, ⟨%d4, H4⟩⟩
  iapply (wp_body m c ((dat0 m c).before 4 t0_0 d4))
  isplitl [HΦ]; · iexact HΦ
  isplitl [HO]; · iexact HO
  isplitl [H0]
  · iapply (Entails.of_eq (congrArg (fun v => (owns (c : Thread nD τ) (win0_0.stage (cfg0.slots t0_0 0)) fullShare v : sProp 𝕄)) (before0 m c d0))); iexact H0
  isplitl [H1]
  · iapply (Entails.of_eq (congrArg (fun v => (owns (c : Thread nD τ) (win0_1.stage (cfg0.slots t0_0 1)) fullShare v : sProp 𝕄)) (before1 m c d1))); iexact H1
  isplitl [H2]
  · iapply (Entails.of_eq (congrArg (fun v => (owns (c : Thread nD τ) (win0_2.stage (cfg0.slots t0_0 2)) fullShare v : sProp 𝕄)) (before2 m c d2))); iexact H2
  isplitl [H3]
  · iapply (Entails.of_eq (congrArg (fun v => (owns (c : Thread nD τ) (win0_3.stage (cfg0.slots t0_0 3)) fullShare v : sProp 𝕄)) (before3 m c d3))); iexact H3
  iexact H4

/-! ## The call as a segment -/

theorem kitP : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem cutD (c : Dev nD) (t : Fin (cfg0.N + 1)) (g : GSem nD τ sig) (i : ℕ) (h : 0 < (dat0 m c).owed t g i) : i ∈ L 20 g ∧ 0 < lv g i := by
  have e : (dat0 m c).owed t = if t.val = 0 then 0 + dues c else 0 := rfl
  rw [e] at h
  split at h
  · rw [zero_add] at h
    obtain ⟨x, hx, rfl, rfl⟩ := tallyL_pos h
    have hb := dues_between rB (rDorm 0) _ 0 20 (shape_between rDue rPeer c 0 0 20 rDue_le) x hx
    exact ⟨mem_L' hb.1 hb.2.2, hb.2.1⟩
  · exact absurd h (Nat.lt_irrefl 0)

/-- What the call leaves in its result's array. -/
def arr4 (c : Dev nD) : Buf (Elt F) ((cfg0.win 4).arr.view.loc (c.tc : Thread nD τ)) := (dat0 m c).arrAt 4 cfg0.N
/-- What the call leaves in any buffer. -/
def outs : Outs (F := F) := fun _ r c => Function.update (V7 m c) (Proc.devRef .tc main_v52) (arr4 m c) (Proc.devRef .tc r)

theorem V8_out (c : Dev nD) : V8 m (outs m) c (Proc.devRef .tc main_v52) = arr4 m c :=
  (Function.update_self _ _ _).trans (Function.update_self _ _ _)

theorem arr_mem : Proc.devRef .tc main_v52 ∈ (Pipeline.arrRefs (τ := τ) spec0) := by decide

theorem rest_same (c : Dev nD) : ∀ b ∈ (Pipeline.ucRefs τ sig \ Pipeline.arrRefs (τ := τ) spec0) \ ∅, V8 m (outs m) c b = V7 m c b := fun b hb => by
  have hn : b ∉ Pipeline.arrRefs (τ := τ) spec0 := (Finset.mem_sdiff.mp (Finset.mem_sdiff.mp hb).1).2
  exact Function.update_of_ne (fun e => hn (by rw [e]; exact arr_mem)) _ _

theorem hin0 (c : Dev nD) : iprop(Pipeline.scopedRest spec0 c ∗ (∃ r, prngReg c r) ∗ StableHlo.held (c.tc : Thread nD τ) ∅ (V7 m c) ∗ Xk ER (Win m) c) ⊢ (dat0 m c).Φ 0 := by
  rw [show (dat0 m c).Φ 0 = iprop(Pipeline.scopedRest spec0 c ∗ (∃ r, prngReg c r) ∗ Xk ER (Win m) c) from rfl]
  iintro ⟨Hs, Hp, -, HX⟩
  isplitl [Hs]; · iexact Hs
  isplitl [Hp]; · iexact Hp
  iexact HX

theorem hout0 (c : Dev nD) : (dat0 m c).Φ (Fin.last cfg0.N)
    ⊢ iprop(Pipeline.scopedRest spec0 c ∗ (∃ r, prngReg c r) ∗ StableHlo.held (c.tc : Thread nD τ) ∅ (V8 m (outs m) c) ∗ Pipeline.ownSems0 osem0 c ∗ Yk m c) := by
  rw [show (dat0 m c).Φ (Fin.last cfg0.N) = iprop(Pipeline.scopedRest spec0 c ∗ (∃ r, prngReg c r) ∗ Pipeline.ownSems0 osem0 c ∗ Yk m c) from rfl]
  unfold StableHlo.held
  rw [BI.bigSep_empty]
  iintro ⟨Hs, Hp, HS, HY⟩
  isplitl [Hs]; · iexact Hs
  isplitl [Hp]; · iexact Hp
  isplitr; · iempintro
  isplitl [HS]; · iexact HS
  iexact HY

theorem hopen1 (c : Dev nD) : iprop(Tk ER (Win m) c ∗ Pipeline.ownSems0 osem0 c ∗ levAts (L 20) lv) ⊢ (|={Set.univ}=> Xk ER (Win m) c : sProp 𝕄) := by
  rw [ownSems0_eq]
  exact hopen0 ER (Win m) c

theorem hW0 (c : Dev nD) (w : Fin 5) : (dat0 m c).arrAt w 0 = V7 m c (Proc.devRef .tc (Pipeline.arrRef spec0 w)) := rfl
theorem hWN_0 (c : Dev nD) : (dat0 m c).arrAt 0 cfg0.N = V8 m (outs m) c main_arg0 := by
  rw [V8_of m (outs m) c main_arg0 (by decide), ← arrOf_0 (V7 m c) c]
  exact Pipeline.Dat.arrAt_in (dat0 m c) 0 rfl _
theorem hWN_1 (c : Dev nD) : (dat0 m c).arrAt 1 cfg0.N = V8 m (outs m) c main_v47 := by
  rw [V8_of m (outs m) c main_v47 (by decide), ← arrOf_1 (V7 m c) c]
  exact Pipeline.Dat.arrAt_in (dat0 m c) 1 rfl _
theorem hWN_2 (c : Dev nD) : (dat0 m c).arrAt 2 cfg0.N = V8 m (outs m) c main_v49 := by
  rw [V8_of m (outs m) c main_v49 (by decide), ← arrOf_2 (V7 m c) c]
  exact Pipeline.Dat.arrAt_in (dat0 m c) 2 rfl _
theorem hWN_3 (c : Dev nD) : (dat0 m c).arrAt 3 cfg0.N = V8 m (outs m) c main_v51 := by
  rw [V8_of m (outs m) c main_v51 (by decide), ← arrOf_3 (V7 m c) c]
  exact Pipeline.Dat.arrAt_in (dat0 m c) 3 rfl _
theorem hWN_4 (c : Dev nD) : (dat0 m c).arrAt 4 cfg0.N = V8 m (outs m) c main_v52 := by
  rw [V8_out]
  unfold arr4
  rfl
theorem hWN (c : Dev nD) (w : Fin 5) : (dat0 m c).arrAt w cfg0.N = V8 m (outs m) c (Proc.devRef .tc (Pipeline.arrRef spec0 w)) := by
  match w with
  | 0 => exact hWN_0 m c
  | 1 => exact hWN_1 m c
  | 2 => exact hWN_2 m c
  | 3 => exact hWN_3 m c
  | 4 => exact hWN_4 m c

set_option backward.isDefEq.respectTransparency.types false in
def reg : RegionSeg (pcfgs (F := F)) adm (pdats m) 0 (defs₀ (F := F)) 𝒱₀ (L 20) lv 0 :=
  Pipeline.RegionSeg.ofTalk (pcfgs (F := F)) adm (pdats m) 0 (defs₀ (F := F)) 𝒱₀ (L 20) lv 0 osem0 (by decide : Pipeline.OwnSemFacts spec0 osem0)
    ∅ (Pipeline.ucRefs τ sig \ Pipeline.arrRefs (τ := τ) spec0) (Finset.empty_subset _) kitP rfl (fun c => (body m c).loose)
    (fun _ => 0) dues (owed_zero m) (owed_last m) (fun _ => rfl) (fun c w => by fin_cases w <;> rfl)
    (V7 m) (V8 m (outs m)) (rest_same m)
    (Tk ER (Win m)) (Yk m) (Xk ER (Win m)) (Yk m) (hopen1 m) (hin0 m) (hout0 m)
    (fun c => by iintro H; imodintro; iexact H)
    (fun _ => 0)
    ⟨fun c w s => mem_L c _ (by decide : 0 < 20), fun _ _ _ => le_refl 0, fun c t g i h => cutD m c t g i h⟩
    (fun _ => iprop(emp))
    (hW0 m) (hWN m)

/-- What rides beside the program's buffers. -/
def rideIn (c : Dev nD) : sProp 𝕄 := iprop(Tk ER (Win m) c ∗ (∃ r, prngReg c r) ∗ ∃ W, owes (c : Thread nD τ) (0 + dues c) W)
def rideOut (c : Dev nD) : sProp 𝕄 := iprop(Yk m c ∗ ∃ W, owes (c : Thread nD τ) (0 : CellTallies nD τ sig ℕ) W)
def ride : Fin 2 → Dev nD → sProp (MT nD τ sig ℕ (Elt F) ℕ UU ℕ)
  | 0 => rideIn m
  | 1 => rideOut m

theorem arr_sub : Pipeline.arrRefs (τ := τ) spec0 ⊆ Pipeline.ucRefs τ sig := Pipeline.arrRefs_sub_ucRefs _ (by decide)

set_option backward.isDefEq.respectTransparency.types false in
theorem reg_pre (c : Dev nD) : iprop(StableHlo.held (c : Thread nD τ) (Pipeline.ucRefs τ sig) (V7 m c) ∗ rideIn m c) ⊢ (reg m).pre c := by
  show _ ⊢ iprop(StableHlo.held (c.tc : Thread nD τ) (Pipeline.arrRefs (τ := τ) spec0) (V7 m c) ∗ (∃ r, prngReg c r)
    ∗ (StableHlo.held (c.tc : Thread nD τ) (Pipeline.ucRefs τ sig \ Pipeline.arrRefs (τ := τ) spec0) (V7 m c) ∗ emp) ∗ Tk ER (Win m) c ∗ ∃ Wd, owes (c : Thread nD τ) (0 + dues c) Wd)
  rw [StableHlo.held_sub_split (c.tc : Thread nD τ) arr_sub (V7 m c)]
  unfold rideIn
  iintro ⟨⟨Ha, Hr⟩, HT, Hp, HO⟩
  isplitl [Ha]; · iexact Ha
  isplitl [Hp]; · iexact Hp
  isplitl [Hr]
  · isplitl [Hr]; · iexact Hr
    iempintro
  isplitl [HT]; · iexact HT
  iexact HO

set_option backward.isDefEq.respectTransparency.types false in
theorem reg_post (c : Dev nD) : (reg m).post c ⊢ iprop(StableHlo.held (c : Thread nD τ) (Pipeline.ucRefs τ sig) (V8 m (outs m) c) ∗ rideOut m c) := by
  show iprop(StableHlo.held (c.tc : Thread nD τ) (Pipeline.arrRefs (τ := τ) spec0) (V8 m (outs m) c) ∗ (∃ r, prngReg c r)
    ∗ (StableHlo.held (c.tc : Thread nD τ) (Pipeline.ucRefs τ sig \ Pipeline.arrRefs (τ := τ) spec0) (V8 m (outs m) c) ∗ emp) ∗ Yk m c ∗ ∃ Wd, owes (c : Thread nD τ) (0 : CellTallies nD τ sig ℕ) Wd) ⊢ _
  rw [StableHlo.held_sub_split (c.tc : Thread nD τ) arr_sub (V8 m (outs m) c)]
  unfold rideOut
  iintro ⟨Ha, -, ⟨Hr, -⟩, HY, HO⟩
  isplitl [Ha Hr]
  · isplitl [Ha]; · iexact Ha
    iexact Hr
  isplitl [HY]; · iexact HY
  iexact HO

/-! ## The launch -/

abbrev O₀ (c : Dev nD) : CellTallies nD τ sig ℕ := 0 + dues c
def u₀ : UU := (initOf (Pipeline.cells (Pipeline.pin (pcfgs (F := F)) adm) cellOf_inj) (Pipeline.launchToks (Pipeline.pin (pcfgs (F := F)) adm) cellOf_inj), launchOf rFam.S rFam.Sd rFam.T)
def G : Dev nD → sProp (MT nD τ sig ℕ (Elt F) ℕ UU ℕ) := SiteBlocks.onDev 0 (BI.own ((ER (F := F)) (launchOf rFam.S rFam.Sd rFam.T)))

theorem unscopedSems0_eq (c : Dev nD) : (unscopedSems0 c : sProp 𝕄) = semVal ((c : Thread nD τ), rB) 0 := by
  unfold unscopedSems0
  rw [show (Finset.univ.filter fun sm : SemLoc sig => ¬ sm.isScoped .tc) = {rB} from by decide, BI.bigSep_singleton]

theorem unscoped_eq : ∀ sm : SemLoc sig, sm.isScoped .tc = false → sm = rB := by decide

theorem fund : Funds (Val := Elt F) ER (fun c => semVal ((c.tc : Thread nD τ), rB) 0) O₀ (launchOf rFam.S rFam.Sd rFam.T) (Tk ER (Win m)) Set.univ :=
  pass dues (Fam.funds rFam ER (rRd ER (Win m)) (fun g _ => Sched.not_unitless _ _ _ _ _ _ g) nbs)

theorem hinit :
    iprop((bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (F := F) c)) ∗ levAts (L 20) lv)
      ⊢ (|={Set.univ}=> bigSep Finset.univ (fun c : Dev nD => iprop(StableHlo.held (c : Thread nD τ) (Pipeline.ucRefs τ sig) (V0 m c) ∗ ride m 0 c)) : sProp 𝕄) := by
  have hcore (c : Dev nD) : iprop(unscopedBufs c (fun b => m ((c.tc : Thread nD τ).loc b)) ∗ unscopedSems0 c
        ∗ owes (c.tc : Thread nD τ) (O₀ c) ∅ ∗ Pipeline.launchCred O₀ c ∗ prngReg c (ρ c) ∗ G (F := F) c)
      ⊢ (iprop((StableHlo.held (c : Thread nD τ) (Pipeline.ucRefs τ sig) (V0 m c) ∗ (∃ r, prngReg c r) ∗ ∃ W, owes (c : Thread nD τ) (0 + dues c) W)
          ∗ ((semVal ((c.tc : Thread nD τ), rB) 0 ∗ Pipeline.launchCred O₀ c) ∗ G (F := F) c)) : sProp 𝕄) := by
    rw [show unscopedBufs c (fun b => m ((c.tc : Thread nD τ).loc b)) = StableHlo.held (c : Thread nD τ) (Pipeline.ucRefs τ sig) (V0 m c) from
      Pipeline.unscopedBufs_held (Ix := ℕ) (Name := ℕ) (U := UU) (Lvl := ℕ) c (V0 m c), unscopedSems0_eq]
    iintro ⟨Hh, Hus, HO, Hcr, Hp, HG⟩
    isplitl [Hh HO Hp]
    · isplitl [Hh]; · iexact Hh
      isplitl [Hp]; · iexists (ρ c); iexact Hp
      iexists ∅; iexact HO
    isplitl [Hus Hcr]
    · isplitl [Hus] <;> iassumption
    iexact HG
  iintro ⟨H, -⟩
  ihave H' := (show (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G (F := F) c))
      ⊢ (bigSep Finset.univ fun c : Dev nD => iprop((StableHlo.held (c : Thread nD τ) (Pipeline.ucRefs τ sig) (V0 m c) ∗ (∃ r, prngReg c r) ∗ ∃ W, owes (c : Thread nD τ) (0 + dues c) W)
          ∗ ((semVal ((c.tc : Thread nD τ), rB) 0 ∗ Pipeline.launchCred O₀ c) ∗ G (F := F) c)) : sProp 𝕄) from bigSep_mono fun c _ => hcore c) $$ H
  ihave H2 := pairs_apart $$ H'; icases H2 with ⟨HB, H3⟩
  ihave H4 := pairs_apart $$ H3; icases H4 with ⟨Hv, HG⟩
  ihave Hu := (show bigSep Finset.univ (G (F := F)) ⊢ BI.own ((ER (F := F)) (launchOf rFam.S rFam.Sd rFam.T)) from
    Entails.of_eq (bigSep_onDev 0 (BI.own ((ER (F := F)) (launchOf rFam.S rFam.Sd rFam.T))))) $$ HG
  imod (fund m) $$ [Hv Hu] with HT
  · isplitl [Hv]; · iexact Hv
    iexact Hu
  imodintro
  ihave HZ := pairs_together $$ [HB HT]
  · isplitl [HB]; · iexact HB
    iexact HT
  iapply (show (bigSep Finset.univ fun c : Dev nD => iprop((StableHlo.held (c : Thread nD τ) (Pipeline.ucRefs τ sig) (V0 m c) ∗ (∃ r, prngReg c r) ∗ ∃ W, owes (c : Thread nD τ) (0 + dues c) W)
          ∗ Tk ER (Win m) c))
      ⊢ (bigSep Finset.univ fun c : Dev nD => iprop(StableHlo.held (c : Thread nD τ) (Pipeline.ucRefs τ sig) (V0 m c) ∗ ride m 0 c) : sProp 𝕄) from
    bigSep_mono fun c _ => by
      show _ ⊢ iprop(StableHlo.held (c : Thread nD τ) (Pipeline.ucRefs τ sig) (V0 m c) ∗ rideIn m c)
      unfold rideIn
      iintro ⟨⟨Hh, Hp, HO⟩, HT⟩
      isplitl [Hh]; · iexact Hh
      isplitl [HT]; · iexact HT
      isplitl [Hp]; · iexact Hp
      iexact HO) $$ HZ

theorem hu0 : (ownU (u₀ (F := F)) : sProp 𝕄) ⊢ |={Set.univ}=> iprop(BI.own ((EP (F := F)) (initOf (Pipeline.cells (Pipeline.pin (pcfgs (F := F)) adm) cellOf_inj) (Pipeline.launchToks (Pipeline.pin (pcfgs (F := F)) adm) cellOf_inj))) ∗ bigSep Finset.univ (G (F := F))) := by
  unfold u₀ G
  iintro Hu
  ihave H := (ownU_pair _ _) $$ Hu
  icases H with ⟨HP, HX⟩
  imodintro
  isplitl [HP]; · iexact HP
  rw [bigSep_onDev]; iexact HX

theorem chain_end (c : Dev nD) : (reg m).post c ⊢ iprop((StableHlo.held (c : Thread nD τ) (Pipeline.ucRefs τ sig) (V8 m (outs m) c) ∗ Yk m c) ∗ ∃ W, owes (c : Thread nD τ) (0 : CellTallies nD τ sig ℕ) W) := by
  refine BIBase.Entails.trans (reg_post m c) ?_
  unfold rideOut
  iintro ⟨Hh, HY, HO⟩
  isplitl [Hh HY]
  · isplitl [Hh] <;> iassumption
  iexact HO

/-- What a final state of one device is. -/
def Ends (c : Dev nD) (s : MemSt nD τ sig (Elt F)) : Prop :=
  s.mem ((c.tc : Thread nD τ).loc main_arg0) = m ((c.tc : Thread nD τ).loc main_arg0) ∧ s.mem ((c.tc : Thread nD τ).loc main_arg1) = m ((c.tc : Thread nD τ).loc main_arg1)
    ∧ s.mem ((c.tc : Thread nD τ).loc main_arg2) = m ((c.tc : Thread nD τ).loc main_arg2) ∧ s.mem ((c.tc : Thread nD τ).loc main_arg3) = m ((c.tc : Thread nD τ).loc main_arg3)
    ∧ s.mem ((c.tc : Thread nD τ).loc main_v52) = arr4 m c

theorem hfin (c : Dev nD) (s' : Phys nD τ sig (Elt F)) :
    iprop((StableHlo.held (c : Thread nD τ) (Pipeline.ucRefs τ sig) (V8 m (outs m) c) ∗ Yk m c) ∗ SI s')
      ⊢ (iprop(|={Set.univ}=> (⌜Ends m c s'.mem ∧ s'.mem.sem ((c.tc : Thread nD τ), rB) = 0⌝ ∗ SI s')) : sProp 𝕄) := by
  unfold Yk StableHlo.held
  iintro ⟨⟨Hh, HY⟩, HSI⟩
  imod (Fam.barPos_read rFam ER (rRd ER (Win m)) c (bar_over ER (Win m) c) ∅ s') $$ [HY HSI] with ⟨%hb, HSI⟩
  · isplitl [HY] <;> iassumption
  ihave Hr := (pointsTo_read_all (Pipeline.ucRefs τ sig) (fun b => ((c : Thread nD τ).1, b)) (V8 m (outs m) c) s') $$ [Hh HSI]
  · isplitl [Hh] <;> iassumption
  icases Hr with ⟨%h, HSI⟩
  imodintro
  isplitr
  · ipureintro
    exact ⟨⟨(h (Proc.devRef .tc main_arg0) (Finset.mem_filter.mpr ⟨StableHlo.devRef_mem_tcRefs main_arg0, by decide⟩)).trans (V8_main_arg0 m (outs m) c),
      (h (Proc.devRef .tc main_arg1) (Finset.mem_filter.mpr ⟨StableHlo.devRef_mem_tcRefs main_arg1, by decide⟩)).trans (V8_main_arg1 m (outs m) c),
      (h (Proc.devRef .tc main_arg2) (Finset.mem_filter.mpr ⟨StableHlo.devRef_mem_tcRefs main_arg2, by decide⟩)).trans (V8_main_arg2 m (outs m) c),
      (h (Proc.devRef .tc main_arg3) (Finset.mem_filter.mpr ⟨StableHlo.devRef_mem_tcRefs main_arg3, by decide⟩)).trans (V8_main_arg3 m (outs m) c),
      (h (Proc.devRef .tc main_v52) (Finset.mem_filter.mpr ⟨StableHlo.devRef_mem_tcRefs main_v52, by decide⟩)).trans (V8_out m c)⟩, hb⟩
  iexact HSI

set_option backward.isDefEq.respectTransparency.types false in
/-- The run: from any memory with zero counters the program ends, its arguments are unchanged, its result is what the ring left, and every counter is at zero. -/
theorem run_main : θ_run defs (onTc (τ := τ) (main (F := F))) ⟨m, fun _ => 0, ρ⟩ (fun r => (∀ c : Dev nD, Ends m c r.2) ∧ r.2.sem = fun _ => 0) := by
  refine Pipeline.θ_run_regions_kit_dev_sems (pcfgs (F := F)) adm (pdats m) 0 cellOf_inj EP (defs₀ (F := F)) 𝒱₀ (L 20) lv m ρ main
    (segs m 𝒱₀ (L 20) lv (ride m) 0 (pdats m) (reg m))
    (fun c Q => by
      rewrite [main_chain c, Seg.run_eq_chain,
        show (segs m 𝒱₀ (L 20) lv (ride m) 0 (pdats m) (reg m) c).map Seg.prog = [StableHlo.seq (hostOps0 c), StableHlo.seq hostOps0_1, StableHlo.seq hostOps0_2, StableHlo.seq hostOps0_3,
          StableHlo.seq hostOps0_4, StableHlo.seq hostOps0_5, StableHlo.seq hostOps0_6, Prog.lift (.customCall (Pipeline.entry 0) ())] from rfl]
      dsimp (config := { failIfUnchanged := false }) only
      exact .rfl)
    (fun c => by simp only [segs, Seg.pipes_host, Seg.pipes_region, Seg.pipes_nil]; decide) O₀ (hL 20) (G (F := F)) (u₀ (F := F)) hu0
    (T₀ := fun c : Dev nD => iprop(StableHlo.held (c : Thread nD τ) (Pipeline.ucRefs τ sig) (V0 m c) ∗ ride m 0 c))
    (Tₙ := fun c : Dev nD => iprop(StableHlo.held (c : Thread nD τ) (Pipeline.ucRefs τ sig) (V8 m (outs m) c) ∗ Yk m c))
    (hch := fun c => ⟨.rfl, .rfl, .rfl, .rfl, .rfl, .rfl, .rfl, reg_pre m c, chain_end m c⟩)
    (hinit := hinit m ρ) (QY := fun c s => Ends m c s ∧ s.sem ((c.tc : Thread nD τ), rB) = 0)
    (hfin := fun c s' => hfin m c s')
    (hQ := fun s h hs => ⟨fun c => (h c).1, sem_eq_zero hs fun c sm hsm => by
      obtain rfl := unscoped_eq sm hsm
      exact (h c).2⟩)

end Launch
end Cert.Proof.RunKernelIdeal

end
-- ==== Proof.Value.Terms.lean ====
/- The values the ring call is made of, read entry by entry: the two products of a stage, a column of the mask, the mask itself. -/
module
public import proofs.«01_k».proof.Proof.RunKernelIdeal.RingBody
public import Idealize.ShloMosaic.Lib.Pointwise
@[expose] public section
noncomputable section
namespace Cert.Proof.Value
open Idealize.ShloMosaic Cert.KernelIdeal Cert.KernelIdeal.Gen
open Cert.Proof.RunKernelIdeal

/-- The two products of one stage of the ring, as sums. -/
theorem pay4_apply (x : Vec Ideal S1024x512 .bf16) (a0 a1 a2 a3 : Vec Ideal S1024x1 .bf16) (w w' : Vec Ideal S1024x1024 .bf16) (i j : Fin 1024) :
    k0_pay4 (F := Ideal) x a0 a1 (k0_pay2 (F := Ideal) w) a2 a3 (k0_pay2 (F := Ideal) w') (ix2 i j)
      = (∑ d : Fin 512, x (ix2 i d) * a0 (ix2 i 0) * w (ix2 (⟨d.val, by omega⟩ : Fin 1024) j) + ∑ d : Fin 512, x (ix2 i d) * a1 (ix2 i 0) * w (ix2 (⟨512 + d.val, by omega⟩ : Fin 1024) j))
        + (∑ d : Fin 512, x (ix2 i d) * a2 (ix2 i 0) * w' (ix2 (⟨d.val, by omega⟩ : Fin 1024) j) + ∑ d : Fin 512, x (ix2 i d) * a3 (ix2 i 0) * w' (ix2 (⟨512 + d.val, by omega⟩ : Fin 1024) j)) := by
  unfold k0_pay4 k0_pay2
  simp only [shapeCast_self, shapeCast_shapeCast]
  pointwise [dot_S1024x1024_S1024x1024_S1024x1024_1_0_0_1_n_n]
  first
  | done
  | rfl

/-- Every later stage adds its two products to what is there. -/
theorem pay5_apply (x : Vec Ideal S1024x512 .bf16) (a0 a1 a2 a3 : Vec Ideal S1024x1 .bf16) (w w' : Vec Ideal S1024x1024 .bf16) (y : Vec Ideal S1024x1024 .f32) (i j : Fin 1024) :
    k0_pay5 (F := Ideal) x a0 a1 (k0_pay2 (F := Ideal) w) a2 a3 (k0_pay2 (F := Ideal) w') y (ix2 i j)
      = y (ix2 i j) + k0_pay4 (F := Ideal) x a0 a1 (k0_pay2 (F := Ideal) w) a2 a3 (k0_pay2 (F := Ideal) w') (ix2 i j) := by
  unfold k0_pay5 k0_pay4
  first
    | rfl
    | (simp only [shapeCast_self]; rfl)

/-- A column of the mask. -/
theorem colAt_apply (A : FVec Ideal S1024x32 .bf16) (n : Fin 32) (i : Fin 1024) : colAt (F := Ideal) A n (ix2 i 0) = A (ix2 i n) := by
  unfold colAt
  refine congrArg A (funext fun a => Fin.ext ?_)
  match a with
  | ⟨0, _⟩ => first | (show 0 + i.val * 1 = i.val; omega) | (show 0 + 1 * i.val = i.val; omega)
  | ⟨1, _⟩ => first | (show n.val + 0 * 1 = n.val; omega) | (show n.val + 1 * 0 = n.val; omega)

/-- A truth value as a number. -/
theorem flag_value (b : BitVec 1) : (FloatOps.uitofp .bf16 b : Ideal .bf16) = if b = 1#1 then (1 : EReal) else 0 := by
  rcases (by revert b; decide : b = 0#1 ∨ b = 1#1) with rfl | rfl
  · first | (show ((((0#1 : BitVec 1).toNat : ℝ)) : EReal) = 0; simp) | simp [FloatOps.uitofp]
  · first | (show ((((1#1 : BitVec 1).toNat : ℝ)) : EReal) = 1; simp) | simp [FloatOps.uitofp]

/-- Taking columns: at a start in range, the column it names. -/
theorem take_col (x : FVec Ideal S1024x32 .bf16) (ix : IVec S32x1 32) (i : Fin 1024) (n e : Fin 32) (h : ix (ix2 n 0) = BitVec.ofNat 32 e) :
   Host.gather gather_S1024x32_S32x1_S1024x32_0_1_n_n_1_1_10241 x ix (ix2 i n) = x (ix2 i e) := by
  unfold Host.gather
  have h0 : (gather_S1024x32_S32x1_S1024x32_0_1_n_n_1_1_10241.operandIdx (ix2 i n) ix (0 : Fin 2)).val = i.val := by
    show _ + _ + _ = i.val
    rw [GatherDims.start, dif_neg (by decide), GatherDims.batchCoord, dif_neg (by decide), GatherDims.offCoord, dif_pos (by decide), Nat.zero_add]
    have k : gather_S1024x32_S32x1_S1024x32_0_1_n_n_1_1_10241.offsetDims[List.idxOf (0 : Fin 2) gather_S1024x32_S32x1_S1024x32_0_1_n_n_1_1_10241.sKept]'(by decide) = (0 : Fin 2) := by decide
    exact congrArg (fun a : Fin 2 => (ix2 i n a).val) k
  have h1 : (gather_S1024x32_S32x1_S1024x32_0_1_n_n_1_1_10241.operandIdx (ix2 i n) ix (1 : Fin 2)).val = e.val := by
    show _ + _ + _ = e.val
    rw [GatherDims.start, dif_pos (by decide), GatherDims.batchCoord, dif_neg (by decide), GatherDims.offCoord, dif_neg (by decide)]
    have e1 : gather_S1024x32_S32x1_S1024x32_0_1_n_n_1_1_10241.siIdx (ix2 i n) ⟨List.idxOf (1 : Fin 2) gather_S1024x32_S32x1_S1024x32_0_1_n_n_1_1_10241.startIndexMap, List.idxOf_lt_length_iff.2 (by decide)⟩ = ix2 n 0 := by
      funext b
      refine Fin.ext ?_
      match b with
      | ⟨0, _⟩ => first | rfl
      | ⟨1, _⟩ => first | rfl
    have e2 : ∀ e : Fin 32, min ((BitVec.ofNat 32 e.val).toInt.toNat) (32 - 1) + 0 + 0 = e.val := by decide
    refine Eq.trans ?_ (e2 e)
    rw [← h]
    first | exact congrArg (fun k => min ((ix k).toInt.toNat) (32 - 1) + 0 + 0) e1
  refine congrArg x (funext fun a => Fin.ext ?_)
  match a with
  | ⟨0, _⟩ => exact h0
  | ⟨1, _⟩ => exact h1

/-- Which token goes to which expert: the route names it, and fewer than 204 earlier tokens chose it. -/
def maskK (a1 : IVec S1024x1 32) (a2 : IVec S1024x32 32) : IVec S1024x32 1 :=
  andi (cmpi .sgt (extui 32 (cmpi .eq (broadcastInDim S1024x32 ![0, 1] bcast_S1024x1_S1024x32_0_1 (broadcastInDim S1024x1 ![0] bcast_S1024_S1024x1_0 (shapeCast S1024 a1 shapeCasts_S1024x1_S1024)))
     (broadcastInDim S1024x32 ![0, 1] bcast_S1x32_S1024x32_0_1 (broadcastInDim S1x32 ![1] bcast_S32_S1x32_1 (iotaInDim S32 32 0)))) natLt_1_32)
     (broadcastInDim S1024x32 ![] bcast_S_S1024x32 (constantI S_ 32 0#32))) (cmpi .slt a2 (broadcastInDim S1024x32 ![] bcast_S_S1024x32 (constantI S_ 32 204#32)))
/-- Widening a truth value and asking whether it is positive changes nothing. -/
theorem ext_pos : ∀ b : BitVec 1, IntOp.cmpi .sgt (BitVec.setWidth 32 b) 0#32 = b := by decide
/-- The mask, entry by entry, -/
theorem maskK_apply (a1 : IVec S1024x1 32) (a2 : IVec S1024x32 32) (i : Fin 1024) (e : Fin 32) :
    maskK a1 a2 (ix2 i e) = IntOp.andi (IntOp.cmpi .eq (a1 (ix2 i 0)) (BitVec.ofNat 32 e)) (IntOp.cmpi .slt (a2 (ix2 i e)) 204#32) := by
  unfold maskK
  pointwise
  first | (rw [ext_pos]; done) | (simp only [ext_pos]; done)
/-- and as numbers. -/
theorem maskF_apply (a1 : IVec S1024x1 32) (a2 : IVec S1024x32 32) (i : Fin 1024) (e : Fin 32) :
    (uitofp (F := Ideal) .bf16 (maskK a1 a2)) (ix2 i e) = (FloatOps.uitofp .bf16 (maskK a1 a2 (ix2 i e)) : Ideal .bf16) := by
  first | rfl | (pointwise; done)
/-- A choice between a number and zero is a product. -/
theorem sel_flag (b : BitVec 1) (x : EReal) : Scalar.select b x 0 = (if b = 1#1 then (1 : EReal) else 0) * x := by
  rcases (by revert b; decide : b = 0#1 ∨ b = 1#1) with rfl | rfl
  · first | (show (0 : EReal) = _; simp) | (simp [Scalar.select]; done)
  · first | (show x = _; simp) | (simp [Scalar.select]; done)
/-- Pulling a factor out of a sum where the factor is zero or one. -/
theorem sum_flag {n : ℕ} (b : BitVec 1) (x w : Fin n → EReal) : ∑ d, x d * (if b = 1#1 then (1 : EReal) else 0) * w d = Scalar.select b (∑ d, x d * w d) 0 := by
  rw [sel_flag]
  by_cases h : b = 1#1
  · simp [h]
  · simp [h]
end Cert.Proof.Value
-- ==== Proof.Value.Host.lean ====
/- What the host computes before the ring call: the order of the mask's columns, the mask in that order, the weights as matrices. -/
module
public import proofs.«01_k».proof.Proof.Value.Terms
public import proofs.«01_k».proof.Proof.Gen.KernelIdeal.Regions
@[expose] public section
noncomputable section
namespace Cert.Proof.Value
open Idealize.ShloMosaic Cert.KernelIdeal Cert.KernelIdeal.Gen Idealize.ShloMosaic.TcCoe Idealize.ShloMosaic.StableHlo

variable (m : (ℓ : Loc nD τ sig) → Buf (Elt Ideal) ℓ)

def remF (x : IVec S8 32) (k : IVec S_ 32) : IVec S8 32 :=
  let k' : IVec S_ 32 := select (cmpi .eq (id k) (constantI S_ 32 0#32)) (constantI S_ 32 1#32) (id k)
  let r : IVec S8 32 := Host.remsi x (broadcastInDim S8 ![] bcast_S_S8 k')
  select (andi (cmpi .ne (cmpi .slt r (broadcastInDim S8 ![] bcast_S_S8 (constantI S_ 32 0#32))) (broadcastInDim S8 ![] bcast_S_S8 (cmpi .slt k' (constantI S_ 32 0#32))))
    (cmpi .ne r (broadcastInDim S8 ![] bcast_S_S8 (constantI S_ 32 0#32)))) (addi r (broadcastInDim S8 ![] bcast_S_S8 k')) r

theorem rem1 (c : Dev nD) : (V2 m c main_v21 : IVec S8 32) = remF (V1 m c main_v20 : IVec S8 32) (V1 m c main_c_3 : IVec S_ 32) := by
  unfold V2
  simp only [hostOps0_1, TRef.nullary, TRef.ternary, TRef.unary, TRef.binary, TRef.toBuf, TRef.ofBuf, cast_eq]
  after_results
  first | rfl
theorem rem2 (c : Dev nD) : (V4 m c main_v25 : IVec S8 32) = remF (V3 m c main_v24 : IVec S8 32) (V3 m c main_c_4 : IVec S_ 32) := by
  unfold V4
  simp only [hostOps0_3, TRef.nullary, TRef.ternary, TRef.unary, TRef.binary, TRef.toBuf, TRef.ofBuf, cast_eq]
  after_results
  first | rfl

theorem s1 (c : Dev nD) : (V1 m c main_c_3 : IVec S_ 32) = constantI S_ 32 8#32 := by
  unfold V1 hostOps0
  after_results
theorem s2 (c : Dev nD) : (V3 m c main_c_4 : IVec S_ 32) = constantI S_ 32 8#32 := by
  unfold V3 hostOps0_2
  after_results
theorem s3 (c : Dev nD) : (V3 m c main_v24 : IVec S8 32) = addi (broadcastInDim S8 ![] bcast_S_S8 (V1 m c main_v4 : IVec S_ 32)) (iotaInDim S8 32 0) := by
  rw [← V2_of m c main_v4 (by decide)]
  unfold V3 hostOps0_2
  after_results
theorem s4 (c : Dev nD) : (V1 m c main_v20 : IVec S8 32) = subi (broadcastInDim S8 ![] bcast_S_S8 (V1 m c main_v4 : IVec S_ 32)) (iotaInDim S8 32 0) := by
  unfold V1 hostOps0
  after_results
theorem s5 (c : Dev nD) : (V1 m c main_v4 : S_.Idx → BitVec 32) = fun _ => BitVec.ofNat 32 c.val := by
  unfold V1 hostOps0
  after_results
  have key : ∀ c : Dev nD, (id (Host.remui (Host.divui (constantI S_ 32 c.word) (constantI S_ 32 1#32)) (constantI S_ 32 8#32)) : IVec S_ 32) (fun a => a.elim0) = BitVec.ofNat 32 c.val := by decide +kernel
  funext i
  rw [show i = (fun a => a.elim0) from funext fun a => a.elim0]
  exact key c

def permOf (p q : IVec S8 32) : IVec S32 32 :=
  shapeCast S32 (concatenate S8x4 1 [⟨S8x1, broadcastInDim S8x1 ![0] bcast_S8_S8x1_0 (muli p (broadcastInDim S8 ![] bcast_S_S8 (constantI S_ 32 4#32)))⟩,
    ⟨S8x1, broadcastInDim S8x1 ![0] bcast_S8_S8x1_0 (addi (muli p (broadcastInDim S8 ![] bcast_S_S8 (constantI S_ 32 4#32))) (broadcastInDim S8 ![] bcast_S_S8 (constantI S_ 32 1#32)))⟩,
    ⟨S8x1, broadcastInDim S8x1 ![0] bcast_S8_S8x1_0 (addi (muli q (broadcastInDim S8 ![] bcast_S_S8 (constantI S_ 32 4#32))) (broadcastInDim S8 ![] bcast_S_S8 (constantI S_ 32 2#32)))⟩,
    ⟨S8x1, broadcastInDim S8x1 ![0] bcast_S8_S8x1_0 (addi (muli q (broadcastInDim S8 ![] bcast_S_S8 (constantI S_ 32 4#32))) (broadcastInDim S8 ![] bcast_S_S8 (constantI S_ 32 3#32)))⟩]
    concatenates_S8x1_S8x1_S8x1_S8x1_S8x4_d1) shapeCasts_S8x4_S32
theorem s6' (W : Valuation τ sig (Elt Ideal)) : (StableHlo.after hostOps0_4 W main_v45 : IVec S32 32) = permOf (W main_v21) (W main_v25) := by
  unfold hostOps0_4
  after_results
  first | rfl | (dsimp only [Matrix.cons_val_zero, Matrix.cons_val_one, Matrix.cons_val]; after_results; rfl)
theorem s6 (c : Dev nD) : (V5 m c main_v45 : IVec S32 32) = permOf (V4 m c main_v21) (V4 m c main_v25) := s6' (V4 m c)
theorem s7 (c : Dev nD) : (V1 m c main_v17 : IVec S1024x32 1) = maskK (m ((c : Thread nD τ).loc main_arg1)) (m ((c : Thread nD τ).loc main_arg2)) := by
  unfold V1 hostOps0
  after_results
  first | rfl
def flagsF (k : IVec S1024x32 1) : FVec Ideal S1024x32 .bf16 := uitofp .bf16 k
theorem s8' (W : Valuation τ sig (Elt Ideal)) : (StableHlo.after hostOps0_4 W main_v46 : FVec Ideal S1024x32 .bf16) = flagsF (W main_v17) := by
  unfold hostOps0_4
  after_results
  try rfl
theorem s8 (c : Dev nD) : (V5 m c main_v46 : FVec Ideal S1024x32 .bf16) = flagsF (V4 m c main_v17) := s8' (V4 m c)
theorem s9 (c : Dev nD) : (V4 m c main_v17 : IVec S1024x32 1) = V1 m c main_v17 := by
  rw [V4_of m c main_v17 (by decide), V3_of m c main_v17 (by decide), V2_of m c main_v17 (by decide)]
theorem s10 (c : Dev nD) : (V4 m c main_v21 : IVec S8 32) = V2 m c main_v21 := by
  rw [V4_of m c main_v21 (by decide), V3_of m c main_v21 (by decide)]

def permN (c : Dev nD) (n : Fin 32) : ℕ := if n.val % 4 < 2 then 4 * ((c.val + 8 - n.val / 4) % 8) + n.val % 4 else 4 * ((c.val + n.val / 4) % 8) + n.val % 4
def devB (c : Dev nD) : IVec S_ 32 := fun _ => BitVec.ofNat 32 c.val
theorem perm_closed : ∀ (c : Dev nD) (n : Fin 32), permOf (remF (subi (broadcastInDim S8 ![] bcast_S_S8 (devB c)) (iotaInDim S8 32 0)) (constantI S_ 32 8#32))
   (remF (addi (broadcastInDim S8 ![] bcast_S_S8 (devB c)) (iotaInDim S8 32 0)) (constantI S_ 32 8#32)) (ix1 n) = BitVec.ofNat 32 (permN c n) := by
  decide +kernel
theorem perm_eq (c : Dev nD) (n : Fin 32) : (V5 m c main_v45 : S32.Idx → BitVec 32) (ix1 n) = BitVec.ofNat 32 (permN c n) := by
  rw [← perm_closed c n]
  refine congrFun ?_ _
  rw [s6, s10, rem1, rem2, s1, s2, s3, s4, s5]
  rfl

/-! ## The mask's columns in the ring's order -/

/-- The column numbers as starts of a take: a negative one counts from the end. -/
def ixOf (p : IVec S32 32) : IVec S32x1 32 :=
  broadcastInDim S32x1 ![0] bcast_S32_S32x1_0 (select (cmpi .slt p (broadcastInDim S32 ![] bcast_S_S32 (constantI S_ 32 0#32))) (addi p (broadcastInDim S32 ![] bcast_S_S32 (constantI S_ 32 32#32))) p)
/-- Which of them are in range. -/
def okOf (p : IVec S32 32) : IVec S32 1 :=
  Host.reduce IntOp.andi (andi (cmpi .sge (ixOf p) (broadcastInDim S32x1 ![] bcast_S_S32x1 (constantI S_ 32 0#32))) (cmpi .sle (ixOf p) (broadcastInDim S32x1 ![0, 1] bcast_S1x1_S32x1_0_1 (broadcastInDim S1x1 ![1] bcast_S1_S1x1_1 (constantI S1 32 31#32))))) (constantI S_ 1 1#1) reducesTo_S32x1_S32_d1 h_S_
/-- Columns taken, with a filler where a number is out of range. -/
def takeOf (x : FVec Ideal S1024x32 .bf16) (p : IVec S32 32) : FVec Ideal S1024x32 .bf16 :=
  select (broadcastInDim S1024x32 ![1] bcast_S32_S1024x32_1 (okOf p)) (Host.gather gather_S1024x32_S32x1_S1024x32_0_1_n_n_1_1_10241 x (ixOf p)) (broadcastInDim S1024x32 ![] bcast_S_S1024x32 (constant S_ .bf16 0x7FC0#16))
/-- The mask the ring gets is the mask with its columns taken. -/
theorem v47 (c : Dev nD) : (V6 m c main_v47 : FVec Ideal S1024x32 .bf16) = takeOf (V5 m c main_v46) (V5 m c main_v45) := by
  unfold V6
  simp only [hostOps0_5, TRef.nullary, TRef.ternary, TRef.unary, TRef.binary, TRef.toBuf, TRef.ofBuf, cast_eq]
  after_results
  first | done | rfl
/-- The order as a vector of words. -/
def pw (c : Dev nD) : IVec S32 32 := fun n => BitVec.ofNat 32 (permN c (n 0))
theorem ok_eq : ∀ (c : Dev nD) (n : Fin 32), okOf (pw c) (ix1 n) = 1#1 ∧ ixOf (pw c) (ix2 n 0) = BitVec.ofNat 32 (permN c n) := by decide +kernel
theorem perm_lt : ∀ (c : Dev nD) (n : Fin 32), permN c n < 32 := by decide +kernel
/-- The expert whose column is the n-th on device c. -/
def perm (c : Dev nD) (n : Fin 32) : Fin 32 := ⟨permN c n, perm_lt c n⟩
theorem perm_inj : ∀ (c : Dev nD) (n k : Fin 32), perm c n = perm c k → n = k := by decide +kernel
theorem perm_bij (c : Dev nD) : Function.Bijective (perm c) := Finite.injective_iff_bijective.mp (fun n k => perm_inj c n k)
theorem v45 (c : Dev nD) : (V5 m c main_v45 : IVec S32 32) = pw c := by
  funext n
  have e : n = ix1 (n 0) := by
    funext a
    match a with
    | ⟨0, _⟩ => rfl
  exact (congrArg (V5 m c main_v45 : S32.Idx → BitVec 32) e).trans (perm_eq m c (n 0))

/-- Whether token i of device c is computed by expert e. -/
def bit (c : Dev nD) (i : Fin 1024) (e : Fin 32) : BitVec 1 :=
  IntOp.andi (IntOp.cmpi .eq ((m ((c : Thread nD τ).loc main_arg1) : IVec S1024x1 32) (ix2 i 0)) (BitVec.ofNat 32 e)) (IntOp.cmpi .slt ((m ((c : Thread nD τ).loc main_arg2) : IVec S1024x32 32) (ix2 i e)) 204#32)

theorem v46 (c : Dev nD) (i : Fin 1024) (e : Fin 32) : (V5 m c main_v46 : FVec Ideal S1024x32 .bf16) (ix2 i e) = if bit m c i e = 1#1 then (1 : EReal) else 0 := by
  rw [s8, s9, s7]
  unfold flagsF
  rw [maskF_apply, maskK_apply]
  exact flag_value _

/-- Column n of the mask the ring gets is the column of expert `perm c n`. -/
theorem mask_in (c : Dev nD) (i : Fin 1024) (n : Fin 32) : (V7 m c main_v47 : FVec Ideal S1024x32 .bf16) (ix2 i n) = if bit m c i (perm c n) = 1#1 then (1 : EReal) else 0 := by
  rw [V7_of m c main_v47 (by decide), v47, v45]
  unfold takeOf
  have hb : broadcastInDim S1024x32 ![1] bcast_S32_S1024x32_1 (okOf (pw c)) (ix2 i n) = 1#1 := by
    refine Eq.trans (congrArg (okOf (pw c)) ?_) (ok_eq c n).1
    funext a
    match a with
    | ⟨0, _⟩ => rfl
  have hs : ∀ (x : IVec S1024x32 1) (y z : FVec Ideal S1024x32 .bf16), x (ix2 i n) = 1#1 → select x y z (ix2 i n) = y (ix2 i n) := by
    intro x y z h
    show Scalar.select (x (ix2 i n)) (y (ix2 i n)) (z (ix2 i n)) = y (ix2 i n)
    rw [h]
    rfl
  rw [hs _ _ _ hb, take_col _ _ i n (perm c n) (ok_eq c n).2, v46]

/-! ## The weights as matrices -/

theorem v49' (W : Valuation τ sig (Elt Ideal)) : (StableHlo.after hostOps0_6 W main_v49 : S1024x1024.Idx → Elt Ideal .bf16) = shapeCast S1024x1024 (extractStridedSlice S2x512x1024 ![0,0,0] (W main_arg3 : S4x512x1024.Idx → Elt Ideal .bf16) slices_S4x512x1024_S2x512x1024_0_0_0) shapeCasts_S2x512x1024_S1024x1024 := by
  unfold hostOps0_6
  after_results
  first | done | rfl
theorem v51' (W : Valuation τ sig (Elt Ideal)) : (StableHlo.after hostOps0_6 W main_v51 : S1024x1024.Idx → Elt Ideal .bf16) = shapeCast S1024x1024 (extractStridedSlice S2x512x1024 ![2,0,0] (W main_arg3 : S4x512x1024.Idx → Elt Ideal .bf16) slices_S4x512x1024_S2x512x1024_2_0_0) shapeCasts_S2x512x1024_S1024x1024 := by
  unfold hostOps0_6
  after_results
  first | done | rfl
theorem arg3_6 (c : Dev nD) : V6 m c main_arg3 = m ((c : Thread nD τ).loc main_arg3) :=
  (V7_of m c main_arg3 (by decide)).symm.trans ((V8_of m (fun _ r c => V7 m c r) c main_arg3 (by decide)).symm.trans (V8_main_arg3 m (fun _ r c => V7 m c r) c))
theorem arg0_7 (c : Dev nD) : V7 m c main_arg0 = m ((c : Thread nD τ).loc main_arg0) :=
  (V8_of m (fun _ r c => V7 m c r) c main_arg0 (by decide)).symm.trans (V8_main_arg0 m (fun _ r c => V7 m c r) c)

/-- Entry (d, j) of the weights of device p's q-th expert. -/
def wt (p : Dev nD) (q : Fin 4) (d : Fin 512) (j : Fin 1024) : EReal := (m ((p : Thread nD τ).loc main_arg3) : S4x512x1024.Idx → Elt Ideal .bf16) (ix3 q d j)

theorem lo_apply (w : S4x512x1024.Idx → Elt Ideal .bf16) (k : Fin 1024) (j : Fin 1024) (q : Fin 4) (d : Fin 512) (h : k.val = q.val * 512 + d.val) (hq : q.val < 2) :
    shapeCast S1024x1024 (extractStridedSlice S2x512x1024 ![0,0,0] w slices_S4x512x1024_S2x512x1024_0_0_0) shapeCasts_S2x512x1024_S1024x1024 (ix2 k j) = w (ix3 q d j) := by
  pointwise
  exact congrArg w (congrArg₂ (fun a b => ix3 a b j) (Fin.ext (by show k.val / 512 = q.val; omega)) (Fin.ext (by show k.val % 512 = d.val; omega)))
theorem hi_apply (w : S4x512x1024.Idx → Elt Ideal .bf16) (k : Fin 1024) (j : Fin 1024) (q : Fin 4) (d : Fin 512) (h : k.val + 1024 = q.val * 512 + d.val) (hq : 2 ≤ q.val) :
    shapeCast S1024x1024 (extractStridedSlice S2x512x1024 ![2,0,0] w slices_S4x512x1024_S2x512x1024_2_0_0) shapeCasts_S2x512x1024_S1024x1024 (ix2 k j) = w (ix3 q d j) := by
  pointwise
  exact congrArg w (congrArg₂ (fun a b => ix3 a b j) (Fin.ext (by show 2 + k.val / 512 = q.val; omega)) (Fin.ext (by show k.val % 512 = d.val; omega)))
theorem lo_in (p : Dev nD) (k j : Fin 1024) (q : Fin 4) (d : Fin 512) (h : k.val = q.val * 512 + d.val) (hq : q.val < 2) :
    (V7 m p main_v49 : S1024x1024.Idx → Elt Ideal .bf16) (ix2 k j) = wt m p q d j := by
  rw [show (V7 m p main_v49 : S1024x1024.Idx → Elt Ideal .bf16) = _ from v49' (V6 m p), lo_apply _ k j q d h hq, arg3_6]
  rfl
theorem hi_in (p : Dev nD) (k j : Fin 1024) (q : Fin 4) (d : Fin 512) (h : k.val + 1024 = q.val * 512 + d.val) (hq : 2 ≤ q.val) :
    (V7 m p main_v51 : S1024x1024.Idx → Elt Ideal .bf16) (ix2 k j) = wt m p q d j := by
  rw [show (V7 m p main_v51 : S1024x1024.Idx → Elt Ideal .bf16) = _ from v51' (V6 m p), hi_apply _ k j q d h hq, arg3_6]
  rfl
end Cert.Proof.Value
-- ==== Proof.Value.Ring.lean ====
/- What the ring call leaves in its result, and what its windows read, as functions of the arrays it was called with. -/
module
public import proofs.«01_k».proof.Proof.RunKernelIdeal.Launch
@[expose] public section
set_option synthInstance.maxSize 4096
noncomputable section
namespace Cert.Proof.Value
open Idealize.ShloMosaic Cert.KernelIdeal Cert.KernelIdeal.Gen Idealize.ShloMosaic.TcCoe
open Cert.Proof.RunKernelIdeal

variable (m : (ℓ : Loc nD τ sig) → Buf (Elt Ideal) ℓ)

/-! The windows read their arrays whole. -/

theorem X_read (c : Dev nD) : Xin m c = (V7 m c main_arg0 : S1024x512.Idx → Elt Ideal .bf16) := by
  unfold Xin
  funext i
  unfold arr0
  rw [arrOf_0]
  refine congrArg (V7 m c main_arg0 : S1024x512.Idx → Elt Ideal .bf16) (funext fun a => Fin.ext ?_)
  match a with
  | ⟨0, _⟩ => first | (show 0 + (i 0).val * 1 = (i 0).val; omega) | (show 0 + 1 * (i 0).val = (i 0).val; omega) | (show 0 * 1024 + 1 * (i 0).val = (i 0).val; omega)
  | ⟨1, _⟩ => first | (show 0 + (i 1).val * 1 = (i 1).val; omega) | (show 0 + 1 * (i 1).val = (i 1).val; omega) | (show 0 * 512 + 1 * (i 1).val = (i 1).val; omega)
theorem A_read (c : Dev nD) : Ain m c = (V7 m c main_v47 : S1024x32.Idx → Elt Ideal .bf16) := by
  unfold Ain
  funext i
  unfold arr0
  rw [arrOf_1]
  refine congrArg (V7 m c main_v47 : S1024x32.Idx → Elt Ideal .bf16) (funext fun a => Fin.ext ?_)
  match a with
  | ⟨0, _⟩ => first | (show 0 + (i 0).val * 1 = (i 0).val; omega) | (show 0 + 1 * (i 0).val = (i 0).val; omega) | (show 0 * 1024 + 1 * (i 0).val = (i 0).val; omega)
  | ⟨1, _⟩ => first | (show 0 + (i 1).val * 1 = (i 1).val; omega) | (show 0 + 1 * (i 1).val = (i 1).val; omega) | (show 0 * 32 + 1 * (i 1).val = (i 1).val; omega)
theorem lo_read (c : Dev nD) : Win m false c = (V7 m c main_v49 : S1024x1024.Idx → Elt Ideal .bf16) := by
  show ((cfg0.win 2).blk t0_0).view.read (Elt Ideal) (arr0 m c 2) = _
  funext i
  unfold arr0
  rw [arrOf_2]
  refine congrArg (V7 m c main_v49 : S1024x1024.Idx → Elt Ideal .bf16) (funext fun a => Fin.ext ?_)
  match a with
  | ⟨0, _⟩ => first | (show 0 + (i 0).val * 1 = (i 0).val; omega) | (show 0 + 1 * (i 0).val = (i 0).val; omega) | (show 0 * 1024 + 1 * (i 0).val = (i 0).val; omega)
  | ⟨1, _⟩ => first | (show 0 + (i 1).val * 1 = (i 1).val; omega) | (show 0 + 1 * (i 1).val = (i 1).val; omega) | (show 0 * 1024 + 1 * (i 1).val = (i 1).val; omega)
theorem hi_read (c : Dev nD) : Win m true c = (V7 m c main_v51 : S1024x1024.Idx → Elt Ideal .bf16) := by
  show ((cfg0.win 3).blk t0_0).view.read (Elt Ideal) (arr0 m c 3) = _
  funext i
  unfold arr0
  rw [arrOf_3]
  refine congrArg (V7 m c main_v51 : S1024x1024.Idx → Elt Ideal .bf16) (funext fun a => Fin.ext ?_)
  match a with
  | ⟨0, _⟩ => first | (show 0 + (i 0).val * 1 = (i 0).val; omega) | (show 0 + 1 * (i 0).val = (i 0).val; omega) | (show 0 * 1024 + 1 * (i 0).val = (i 0).val; omega)
  | ⟨1, _⟩ => first | (show 0 + (i 1).val * 1 = (i 1).val; omega) | (show 0 + 1 * (i 1).val = (i 1).val; omega) | (show 0 * 1024 + 1 * (i 1).val = (i 1).val; omega)

/-- The result's window is its array whole. -/
theorem out_emb (i : S1024x1024.Idx) : ((cfg0.win 4).blk t0_0).view.emb i = i := by
  refine funext fun a => Fin.ext ?_
  match a with
  | ⟨0, _⟩ => first | (show 0 + (i 0).val * 1 = (i 0).val; omega) | (show 0 + 1 * (i 0).val = (i 0).val; omega) | (show 0 * 1024 + 1 * (i 0).val = (i 0).val; omega)
  | ⟨1, _⟩ => first | (show 0 + (i 1).val * 1 = (i 1).val; omega) | (show 0 + 1 * (i 1).val = (i 1).val; omega) | (show 0 * 1024 + 1 * (i 1).val = (i 1).val; omega)

/-- The call leaves the sum of all eight stages. -/
theorem out_eq (c : Dev nD) : (arr4 m c : S1024x1024.Idx → Elt Ideal .f32) = sumTo (Win m) (Xin m c) (Ain m c) c 7 := by
  unfold arr4
  have h := Pipeline.Dat.arrAt_succ (dat0 m c) (4 : Fin 5) t0_0
  have e : (dat0 m c).arrAt 4 cfg0.N = (dat0 m c).arrAt 4 (t0_0.val + 1) := rfl
  rw [e, h, if_pos (flush0_4 t0_0)]
  funext i
  have k := View.write_emb_of_mem (v := ((cfg0.win 4).blk t0_0).view) ((dat0 m c).arrAt 4 t0_0.val) ((dat0 m c).flushed 4 t0_0) (Finset.mem_univ i)
  rw [out_emb i] at k
  exact k.trans rfl
end Cert.Proof.Value
-- ==== Proof.Value.Sum.lean ====
/- The value of the kernel at ideal values: the ring's sum is the reference's sum over the experts in another order. -/
module
public import proofs.«01_k».proof.Proof.Value.Host
public import proofs.«01_k».proof.Proof.Value.Ring
@[expose] public section
set_option synthInstance.maxSize 4096
noncomputable section
namespace Cert.Proof.Value
open Idealize.ShloMosaic Cert.KernelIdeal Cert.KernelIdeal.Gen Idealize.ShloMosaic.TcCoe
open Cert.Proof.RunKernelIdeal

variable (m : (ℓ : Loc nD τ sig) → Buf (Elt Ideal) ℓ)

/-- Entry (i, d) of device c's tokens. -/
def tok (c : Dev nD) (i : Fin 1024) (d : Fin 512) : EReal := (m ((c : Thread nD τ).loc main_arg0) : S1024x512.Idx → Elt Ideal .bf16) (ix2 i d)

/-- The device that holds expert e, -/
def home (e : Fin 32) : Dev nD := ⟨e.val / 4, by have := e.isLt; show e.val / 4 < 8; omega⟩
/-- and its place there. -/
def place (e : Fin 32) : Fin 4 := ⟨e.val % 4, by omega⟩
/-- What expert e adds to entry (i, j) of device c's result. -/
def prod (c : Dev nD) (i j : Fin 1024) (e : Fin 32) : EReal := Scalar.select (bit m c i e) (∑ d : Fin 512, tok m c i d * wt m (home e) (place e) d j) 0

/-- A masked product with weights of the pair that goes to the right, -/
theorem side_lo (c p : Dev nD) (i j : Fin 1024) (n : Fin 32) (q : Fin 4) (hq : q.val < 2) (hp : home (perm c n) = p ∧ place (perm c n) = q) (k : Fin 512 → Fin 1024) (hk : ∀ d, (k d).val = q.val * 512 + d.val) :
    ∑ d : Fin 512, Xin m c (ix2 i d) * colAt (F := Ideal) (Ain m c) n (ix2 i 0) * Win m false p (ix2 (k d) j) = prod m c i j (perm c n) := by
  refine (Finset.sum_congr rfl fun d _ => ?_).trans (sum_flag (bit m c i (perm c n)) (fun d => tok m c i d) (fun d => wt m (home (perm c n)) (place (perm c n)) d j))
  have e0 : Xin m c (ix2 i d) = tok m c i d := by rw [X_read, arg0_7]; rfl
  have e1 : colAt (F := Ideal) (Ain m c) n (ix2 i 0) = if bit m c i (perm c n) = 1#1 then (1 : EReal) else 0 := by rw [colAt_apply, A_read]; exact mask_in m c i n
  have e2 : Win m false p (ix2 (k d) j) = wt m (home (perm c n)) (place (perm c n)) d j := by rw [lo_read, hp.1, hp.2]; exact lo_in m p (k d) j q d (hk d) hq
  rw [e0, e1, e2]
/-- and one with weights of the pair that goes to the left. -/
theorem side_hi (c p : Dev nD) (i j : Fin 1024) (n : Fin 32) (q : Fin 4) (hq : 2 ≤ q.val) (hp : home (perm c n) = p ∧ place (perm c n) = q) (k : Fin 512 → Fin 1024) (hk : ∀ d, (k d).val + 1024 = q.val * 512 + d.val) :
    ∑ d : Fin 512, Xin m c (ix2 i d) * colAt (F := Ideal) (Ain m c) n (ix2 i 0) * Win m true p (ix2 (k d) j) = prod m c i j (perm c n) := by
  refine (Finset.sum_congr rfl fun d _ => ?_).trans (sum_flag (bit m c i (perm c n)) (fun d => tok m c i d) (fun d => wt m (home (perm c n)) (place (perm c n)) d j))
  have e0 : Xin m c (ix2 i d) = tok m c i d := by rw [X_read, arg0_7]; rfl
  have e1 : colAt (F := Ideal) (Ain m c) n (ix2 i 0) = if bit m c i (perm c n) = 1#1 then (1 : EReal) else 0 := by rw [colAt_apply, A_read]; exact mask_in m c i n
  have e2 : Win m true p (ix2 (k d) j) = wt m (home (perm c n)) (place (perm c n)) d j := by rw [hi_read, hp.1, hp.2]; exact hi_in m p (k d) j q d (hk d) hq
  rw [e0, e1, e2]

/-- Which weights are at hand at stage h, and which columns of the mask go with them. -/
theorem at_hand : ∀ (c : Dev nD) (h : Fin 8), (home (perm c (colOf h.val 0)) = orig false c h.val ∧ place (perm c (colOf h.val 0)) = 0)
    ∧ (home (perm c (colOf h.val 1)) = orig false c h.val ∧ place (perm c (colOf h.val 1)) = 1)
    ∧ (home (perm c (colOf h.val 2)) = orig true c h.val ∧ place (perm c (colOf h.val 2)) = 2)
    ∧ (home (perm c (colOf h.val 3)) = orig true c h.val ∧ place (perm c (colOf h.val 3)) = 3) := by decide +kernel

/-- What stage h adds, of a summand for every column. -/
def st (H : Fin 32 → EReal) (h : ℕ) : EReal := (H (colOf h 0) + H (colOf h 1)) + (H (colOf h 2) + H (colOf h 3))

theorem stage (c : Dev nD) (i j : Fin 1024) (h : ℕ) (hh : h < 8) :
    k0_pay4 (F := Ideal) (Xin m c) (colAt (Ain m c) (colOf h 0)) (colAt (Ain m c) (colOf h 1)) (k0_pay2 (F := Ideal) (Win m false (orig false c h))) (colAt (Ain m c) (colOf h 2)) (colAt (Ain m c) (colOf h 3)) (k0_pay2 (F := Ideal) (Win m true (orig true c h))) (ix2 i j)
      = st (fun n => prod m c i j (perm c n)) h := by
  obtain ⟨p0, p1, p2, p3⟩ := at_hand c ⟨h, hh⟩
  rw [pay4_apply, side_lo m c _ i j _ 0 (by decide) p0 _ (fun d => by show d.val = 0 * 512 + d.val; omega),
    side_lo m c _ i j _ 1 (by decide) p1 _ (fun d => by show 512 + d.val = 1 * 512 + d.val; omega),
    side_hi m c _ i j _ 2 (by decide) p2 _ (fun d => by show d.val + 1024 = 2 * 512 + d.val; omega),
    side_hi m c _ i j _ 3 (by decide) p3 _ (fun d => by show 512 + d.val + 1024 = 3 * 512 + d.val; omega)]
  rfl

theorem sum_first (c : Dev nD) (i j : Fin 1024) : sumTo (Win m) (Xin m c) (Ain m c) c 0 (ix2 i j) = st (fun n => prod m c i j (perm c n)) 0 :=
  stage m c i j 0 (by decide)
theorem sum_next (c : Dev nD) (i j : Fin 1024) (h : ℕ) (hh : h + 1 < 8) :
    (sumTo (Win m) (Xin m c) (Ain m c) c (h + 1) (ix2 i j) : EReal) = sumTo (Win m) (Xin m c) (Ain m c) c h (ix2 i j) + st (fun n => prod m c i j (perm c n)) (h + 1) := by
  rw [← stage m c i j (h + 1) hh]
  exact pay5_apply _ _ _ _ _ _ _ _ i j

/-- The eight stages' summands are all the columns'. -/
theorem all_stages (H : Fin 32 → EReal) : ((((((st H 0 + st H 1) + st H 2) + st H 3) + st H 4) + st H 5) + st H 6) + st H 7 = ∑ n, H n := by
  rw [Fin.sum_univ_def, show List.finRange 32 = [0, 1, 2, 3, 4, 5, 6, 7, 8, 9, 10, 11, 12, 13, 14, 15, 16, 17, 18, 19, 20, 21, 22, 23, 24, 25, 26, 27, 28, 29, 30, 31] from by decide]
  simp only [List.map_cons, List.map_nil, List.sum_cons, List.sum_nil, add_zero]
  show (((((((H 0 + H 1 + (H 2 + H 3)) + (H 4 + H 5 + (H 6 + H 7))) + (H 8 + H 9 + (H 10 + H 11))) + (H 12 + H 13 + (H 14 + H 15))) + (H 16 + H 17 + (H 18 + H 19))) + (H 20 + H 21 + (H 22 + H 23))) + (H 24 + H 25 + (H 26 + H 27))) + (H 28 + H 29 + (H 30 + H 31)) = _
  simp only [add_assoc]

/-- Entry (i, j) of device c's result: the sum over all experts. -/
theorem kernel_value (c : Dev nD) (i j : Fin 1024) : (arr4 m c : S1024x1024.Idx → Elt Ideal .f32) (ix2 i j) = ∑ e : Fin 32, prod m c i j e := by
  rw [← (perm_bij c).sum_comp (fun e => prod m c i j e), ← all_stages, out_eq,
    sum_next m c i j 6 (by decide), sum_next m c i j 5 (by decide), sum_next m c i j 4 (by decide), sum_next m c i j 3 (by decide), sum_next m c i j 2 (by decide), sum_next m c i j 1 (by decide), sum_next m c i j 0 (by decide), sum_first]
end Cert.Proof.Value
-- ==== Proof.Value.Reference.lean ====
/- The reference: its result as a function of its arguments, read entry by entry. -/
module
public import proofs.«01_k».proof.Proof.Gen.ReferenceIdeal.Run
public import Idealize.ShloMosaic.Lib.Pointwise
@[expose] public section
noncomputable section
namespace Cert.Proof.Value
open Idealize.ShloMosaic Cert.ReferenceIdeal Cert.ReferenceIdeal.Gen Facts
/-- The reference's result. -/
def refVal (a0 : FVec Ideal S8192x512 .bf16) (a1 : IVec S8192x1 32) (a2 : IVec S8192x32 32) (a3 : FVec Ideal S32x512x1024 .bf16) : FVec Ideal S8192x1024 .f32 :=
  Host.reduceAdd (select (broadcastInDim S8192x32x1024 ![0, 1, 2] bcast_S8192x32x1_S8192x32x1024_0_1_2 (broadcastInDim S8192x32x1 ![0, 1] bcast_S8192x32_S8192x32x1_0_1 (andi (cmpi .eq (broadcastInDim S8192x32 ![0, 1] bcast_S8192x1_S8192x32_0_1 a1) (broadcastInDim S8192x32 ![0, 1] bcast_S1x32_S8192x32_0_1 (broadcastInDim S1x32 ![1] bcast_S32_S1x32_1 (iotaInDim S32 32 0)))) (cmpi .slt a2 (broadcastInDim S8192x32 ![] bcast_S_S8192x32 (constantI S_ 32 204#32)))))) (Host.dotGeneral dot_S8192x512_S32x512x1024_S8192x32x1024_1_1_0_02_n_n none (extf .f32 a0 bitsLt_bf16_f32) (extf .f32 a3 bitsLt_bf16_f32)) (broadcastInDim S8192x32x1024 ![] bcast_S_S8192x32x1024 (constant S_ .f32 0x00000000#32))) (constant S_ .f32 0x00000000#32) reducesTo_S8192x32x1024_S8192x1024_d1 h_S_
/-- The reference's result, entry by entry: every expert's product, where the token is computed by it. -/
theorem refVal_apply (a0 : FVec Ideal S8192x512 .bf16) (a1 : IVec S8192x1 32) (a2 : IVec S8192x32 32) (a3 : FVec Ideal S32x512x1024 .bf16) (n : Fin 8192) (f : Fin 1024) : refVal a0 a1 a2 a3 (ix2 n f)
   = ∑ e : Fin 32, Scalar.select (IntOp.andi (IntOp.cmpi .eq (a1 (ix2 n 0)) (BitVec.ofNat 32 e)) (IntOp.cmpi .slt (a2 (ix2 n e)) 204#32)) (∑ d : Fin 512, a0 (ix2 n d) * a3 (ix3 e d f)) (0 : EReal) := by
  unfold refVal
  pointwise [dot_S8192x512_S32x512x1024_S8192x32x1024_1_1_0_02_n_n]
  first | done | rfl
/-- The reference ends with it, its arguments unchanged. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v13) = refVal (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  Cert.ReferenceIdeal.Value.run m ρ
end Cert.Proof.Value
-- ==== Proof.Value.Compare.lean ====
/- Device c's result is block c of the reference's. -/
module
public import proofs.«01_k».proof.Proof.Value.Sum
public import proofs.«01_k».proof.Proof.Value.Reference
public import Idealize.ShloMosaic.Lib.Layout
@[expose] public section
set_option synthInstance.maxSize 4096
noncomputable section
namespace Cert.Proof.Value
open Idealize.ShloMosaic Cert.KernelIdeal Cert.KernelIdeal.Gen Idealize.ShloMosaic.TcCoe
open Cert.Proof.RunKernelIdeal

/-- The row of the whole array that row i of block c is. -/
def row (c : Fin 8) (i : Fin 1024) : Fin 8192 := ⟨c.val * 1024 + i.val, by omega⟩

theorem idx_row {n : ℕ} (h : Layout.Tiles ⟨2, ![1024, n]⟩ ⟨2, ![8192, n]⟩ 0 8) (c : Fin 8) (i : Fin 1024) (k : Fin n) : h.idx c (ix2 i k) = ix2 (row c i) k := by
  funext a
  match a with
  | ⟨0, _⟩ => rfl
  | ⟨1, _⟩ => rfl
theorem idx_expert (h : Layout.Tiles ⟨3, ![4, 512, 1024]⟩ ⟨3, ![32, 512, 1024]⟩ 0 8) (e : Fin 32) (d : Fin 512) (j : Fin 1024) : h.idx (home e) (ix3 (place e) d j) = ix3 e d j := by
  funext a
  refine Fin.ext ?_
  match a with
  | ⟨0, _⟩ => show e.val / 4 * 4 + e.val % 4 = e.val; omega
  | ⟨1, _⟩ => rfl
  | ⟨2, _⟩ => rfl

/-- The kernel's result on device c is block c of the reference's result, when its arguments are the blocks of the reference's. -/
theorem block_value (m : (ℓ : Loc nD τ sig) → Buf (Elt Ideal) ℓ) (a0 : FVec Ideal Cert.ReferenceIdeal.S8192x512 .bf16) (a1 : IVec Cert.ReferenceIdeal.S8192x1 32) (a2 : IVec Cert.ReferenceIdeal.S8192x32 32) (a3 : FVec Ideal Cert.ReferenceIdeal.S32x512x1024 .bf16)
    (h : ∀ c : Dev nD, m ((c : Thread nD τ).loc main_arg0) = Layout.block ⟨2, ![1024, 512]⟩ ⟨2, ![8192, 512]⟩ 0 8 c a0
      ∧ m ((c : Thread nD τ).loc main_arg1) = Layout.block ⟨2, ![1024, 1]⟩ ⟨2, ![8192, 1]⟩ 0 8 c a1
      ∧ m ((c : Thread nD τ).loc main_arg2) = Layout.block ⟨2, ![1024, 32]⟩ ⟨2, ![8192, 32]⟩ 0 8 c a2
      ∧ m ((c : Thread nD τ).loc main_arg3) = Layout.block ⟨3, ![4, 512, 1024]⟩ ⟨3, ![32, 512, 1024]⟩ 0 8 c a3) (c : Dev nD) :
    (arr4 m c : S1024x1024.Idx → Elt Ideal .f32) = Layout.block ⟨2, ![1024, 1024]⟩ ⟨2, ![8192, 1024]⟩ 0 8 c (refVal a0 a1 a2 a3) := by
  have key : ∀ i j : Fin 1024, (arr4 m c : S1024x1024.Idx → Elt Ideal .f32) (ix2 i j) = Layout.block ⟨2, ![1024, 1024]⟩ ⟨2, ![8192, 1024]⟩ 0 8 c (refVal a0 a1 a2 a3) (by decide) (ix2 i j) := by
    intro i j
    refine (kernel_value m c i j).trans (Eq.symm ((congrArg (refVal a0 a1 a2 a3) (idx_row (n := 1024) (by decide) c i j)).trans ((refVal_apply a0 a1 a2 a3 (row c i) j).trans (Eq.symm ?_))))
    refine Finset.sum_congr rfl fun e _ => ?_
    have hx : ∀ d, tok m c i d = a0 (ix2 (row c i) d) := fun d => by
      unfold tok
      rw [(h c).1]
      exact congrArg a0 (idx_row (n := 512) (by decide) c i d)
    have hw : ∀ d, wt m (home e) (place e) d j = a3 (ix3 e d j) := fun d => by
      unfold wt
      rw [(h (home e)).2.2.2]
      exact congrArg a3 (idx_expert (by decide) e d j)
    have hb : bit m c i e = IntOp.andi (IntOp.cmpi .eq (a1 (ix2 (row c i) 0)) (BitVec.ofNat 32 e)) (IntOp.cmpi .slt (a2 (ix2 (row c i) e)) 204#32) := by
      unfold bit
      rw [(h c).2.1, (h c).2.2.1]
      exact congrArg₂ (fun u v => IntOp.andi (IntOp.cmpi .eq u (BitVec.ofNat 32 e)) (IntOp.cmpi .slt v 204#32))
        (congrArg a1 (idx_row (n := 1) (by decide) c i 0)) (congrArg a2 (idx_row (n := 32) (by decide) c i e))
    unfold prod
    rw [hb]
    refine congrArg (fun s : EReal => Scalar.select _ s 0) (Finset.sum_congr rfl fun d _ => ?_)
    rw [hx, hw]
  funext k
  have ek : k = ix2 (n0 := 1024) (n1 := 1024) (k 0) (k 1) := eq_ix2 (n0 := 1024) (n1 := 1024) k
  rw [ek]
  exact key (k 0) (k 1)
end Cert.Proof.Value
-- ==== Proof.lean ====
module

public import proofs.«01_k».proof.Defs
public import proofs.«01_k».proof.Proof.RunKernel.Launch
public import proofs.«01_k».proof.Proof.RunKernelIdeal.Launch
public import proofs.«01_k».proof.Proof.Value.Compare
public import proofs.«01_k».proof.Proof.Gen.ReferenceIdeal
public import proofs.«01_k».proof.Proof.Gen.ReferenceIdeal.Run
public import Idealize.ShloMosaic.Lib.StableHlo.RunHlo

@[expose] public section

noncomputable section

namespace Cert.Proof

open Idealize.ShloMosaic Idealize.SL.Sem

/-- The kernel at machine words ends, leaves its arguments unchanged and every counter at zero. -/
theorem quiet_Kernel : Cert.quiescent_Kernel (hKernel := Cert.Kernel.Gen.facts) := fun m g _ =>
  θ_run_mono (RunKernel.run_main m g) fun _ h => ⟨fun c => ⟨(h.1 c).1, (h.1 c).2.1, (h.1 c).2.2.1, (h.1 c).2.2.2.1⟩, h.2⟩

/-- The kernel at ideal values ends, leaves its arguments unchanged and every counter at zero. -/
theorem quiet_KernelIdeal : Cert.quiescent_KernelIdeal (hKernelIdeal := Cert.KernelIdeal.Gen.facts) := fun m g _ =>
  θ_run_mono (RunKernelIdeal.run_main m g) fun _ h => ⟨fun c => ⟨(h.1 c).1, (h.1 c).2.1, (h.1 c).2.2.1, (h.1 c).2.2.2.1⟩, h.2⟩

/-- The reference ends and leaves its arguments unchanged; it has no counter. -/
theorem quiet_ReferenceIdeal : Cert.quiescent_ReferenceIdeal (hReferenceIdeal := Cert.ReferenceIdeal.Gen.facts) := fun m g _ =>
  θ_run_mono (Cert.ReferenceIdeal.Value.run (F := Ideal) m g) fun r h => ⟨fun c => ⟨(h c).2.1, (h c).2.2.1, (h c).2.2.2.1, (h c).2.2.2.2⟩, sem_eq_zero_of_no_sems (by decide) r.2⟩

/-- At ideal values device c's result is block c of the reference's. -/
theorem algebraic_ReferenceIdeal : Cert.algebraic_KernelIdeal_ReferenceIdeal (hKernelIdeal := Cert.KernelIdeal.Gen.facts) (hReferenceIdeal := Cert.ReferenceIdeal.Gen.facts) := fun m g m' g' _ hblk =>
  ⟨Value.refVal (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)) (m' (((0 : Dev Cert.ReferenceIdeal.nD).tc : Thread Cert.ReferenceIdeal.nD Cert.ReferenceIdeal.τ).loc Cert.ReferenceIdeal.main_arg3)),
    θ_run_mono (RunKernelIdeal.run_main m g) fun _ h c => ⟨(h.1 c).2.2.2.2.trans (Value.block_value m _ _ _ _ hblk c), (h.1 c).1, (h.1 c).2.1, (h.1 c).2.2.1, (h.1 c).2.2.2.1⟩,
    θ_run_mono (Value.run_ref m' g') fun _ h => h 0⟩

theorem claim : Cert.Claim :=
  ⟨Cert.Kernel.Gen.facts, Cert.KernelIdeal.Gen.facts, Cert.ReferenceIdeal.Gen.facts, quiet_Kernel, quiet_KernelIdeal, quiet_ReferenceIdeal, trivial, algebraic_ReferenceIdeal⟩

end Cert.Proof

end
